-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24_0) = v0 c
          ∧ r.2.mem ((c.tc : Thread Cert.ReferenceIdeal.nD Cert.ReferenceIdeal.τ).loc Cert.ReferenceIdeal.main_v24_1) = v1 c
          ∧ r.2.mem ((c.tc : Thread Cert.ReferenceIdeal.nD Cert.ReferenceIdeal.τ).loc Cert.ReferenceIdeal.main_v24_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1024x5120 : Shape := ⟨3, ![6, 1024, 5120]⟩
abbrev S7168x5120 : Shape := ⟨2, ![7168, 5120]⟩
abbrev S7168 : Shape := ⟨1, ![7168]⟩
abbrev S256x256 : Shape := ⟨2, ![256, 256]⟩
abbrev S6144x5120 : Shape := ⟨2, ![6144, 5120]⟩
abbrev S1x7168 : Shape := ⟨2, ![1, 7168]⟩
abbrev S6144x7168 : Shape := ⟨2, ![6144, 7168]⟩
abbrev S6144x1 : Shape := ⟨2, ![6144, 1]⟩
abbrev S512x5120 : Shape := ⟨2, ![512, 5120]⟩
abbrev S1024x5120 : Shape := ⟨2, ![1024, 5120]⟩
abbrev S1x1024 : Shape := ⟨2, ![1, 1024]⟩
abbrev S512x1024 : Shape := ⟨2, ![512, 1024]⟩
abbrev S512x1 : Shape := ⟨2, ![512, 1]⟩
abbrev S128x5120 : Shape := ⟨2, ![128, 5120]⟩
abbrev S128x256 : Shape := ⟨2, ![128, 256]⟩
abbrev S128 : Shape := ⟨1, ![128]⟩
abbrev S128x1 : Shape := ⟨2, ![128, 1]⟩

abbrev nBuf : Space → Nat
  | .hbm => 11
  | .vmem => 16
  | .smem => 0
  | _ => 0

abbrev bufTy : (tb : Table) → Fin (tcTables nBuf tb) → BufTy
  | .hbm, ⟨0, _⟩ => ⟨S6x1024x5120, .bf16⟩
  | .hbm, ⟨1, _⟩ => ⟨S7168x5120, .i8⟩
  | .hbm, ⟨2, _⟩ => ⟨S7168, .f32⟩
  | .hbm, ⟨3, _⟩ => ⟨S7168, .f32⟩
  | .hbm, ⟨4, _⟩ => ⟨S256x256, .bf16⟩
  | .hbm, ⟨5, _⟩ => ⟨S6144x5120, .bf16⟩
  | .hbm, ⟨6, _⟩ => ⟨S1x7168, .f32⟩
  | .hbm, ⟨7, _⟩ => ⟨S1x7168, .f32⟩
  | .hbm, ⟨8, _⟩ => ⟨S6144x7168, .bf16⟩
  | .hbm, ⟨9, _⟩ => ⟨S6144x5120, .i8⟩
  | .hbm, ⟨10, _⟩ => ⟨S6144x1, .f32⟩
  | .local _ .vmem, ⟨0, _⟩ => ⟨S512x5120, .bf16⟩
  | .local _ .vmem, ⟨1, _⟩ => ⟨S512x5120, .bf16⟩
  | .local _ .vmem, ⟨2, _⟩ => ⟨S256x256, .bf16⟩
  | .local _ .vmem, ⟨3, _⟩ => ⟨S1024x5120, .i8⟩
  | .local _ .vmem, ⟨4, _⟩ => ⟨S1024x5120, .i8⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x5120, .i8⟩
  | .local _ .vmem, ⟨12, _⟩ => ⟨S512x5120, .i8⟩
  | .local _ .vmem, ⟨13, _⟩ => ⟨S512x1, .f32⟩
  | .local _ .vmem, ⟨14, _⟩ => ⟨S512x1, .f32⟩
  | .local _ .vmem, ⟨15, _⟩ => ⟨S512x5120, .bf16⟩
  | _, _ => ⟨S6x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![12, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c4_i32 : BitVec 32 := 4#32
  let v21 : BitVec 32 := Scalar.addi c0_i32_12 c4_i32
  let c1_i32 : BitVec 32 := 1#32
  ⟨c0_i32_12, v21, c1_i32⟩
def k0_off1 (k0_t1 : Fin k0_t1_loop.trips) : Fin 2 → Nat :=
  let c0_i32_12 : BitVec 32 := 0#32
  let c1_i32 : BitVec 32 := 1#32
  let arg11 : BitVec 32 := Scf.iv c0_i32_12 c1_i32 k0_t1
  let c128_i32 : BitVec 32 := 128#32
  let v22 : BitVec 32 := Scalar.muli arg11 c128_i32
  let v23 : Index := Scalar.indexCast v22
  let c0_14 : Index := 0#32
  ![v23.toNat, 0]
def k0_off2 (k0_t1 : Fin k0_t1_loop.trips) : Fin 2 → Nat :=
  let c0_i32_12 : BitVec 32 := 0#32
  let c1_i32 : BitVec 32 := 1#32
  let arg11 : BitVec 32 := Scf.iv c0_i32_12 c1_i32 k0_t1
  let c128_i32 : BitVec 32 := 128#32
  let v22 : BitVec 32 := Scalar.muli arg11 c128_i32
  let v94 : Index := Scalar.indexCast v22
  let c0_46 : Index := 0#32
  ![v94.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x5120 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x5120 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S6x1024x5120 : Shape := ⟨3, ![6, 1024, 5120]⟩
abbrev S7168x5120 : Shape := ⟨2, ![7168, 5120]⟩
abbrev S7168 : Shape := ⟨1, ![7168]⟩
abbrev S_ : Shape := ⟨0, ![]⟩
abbrev S1x1 : Shape := ⟨2, ![1, 1]⟩
abbrev S1x2 : Shape := ⟨2, ![1, 2]⟩
abbrev S2x2 : Shape := ⟨2, ![2, 2]⟩
abbrev S2x4 : Shape := ⟨2, ![2, 4]⟩
abbrev S4x4 : Shape := ⟨2, ![4, 4]⟩
abbrev S4x8 : Shape := ⟨2, ![4, 8]⟩
abbrev S8x8 : Shape := ⟨2, ![8, 8]⟩
abbrev S8x16 : Shape := ⟨2, ![8, 16]⟩
abbrev S16x16 : Shape := ⟨2, ![16, 16]⟩
abbrev S16x32 : Shape := ⟨2, ![16, 32]⟩
abbrev S32x32 : Shape := ⟨2, ![32, 32]⟩
abbrev S32x64 : Shape := ⟨2, ![32, 64]⟩
abbrev S64x64 : Shape := ⟨2, ![64, 64]⟩
abbrev S64x128 : Shape := ⟨2, ![64, 128]⟩
abbrev S128x128 : Shape := ⟨2, ![128, 128]⟩
abbrev S6x1024x40x128 : Shape := ⟨4, ![6, 1024, 40, 128]⟩
abbrev S6144x5120 : Shape := ⟨2, ![6144, 5120]⟩
abbrev S1x7168 : Shape := ⟨2, ![1, 7168]⟩
abbrev S6144x7168 : Shape := ⟨2, ![6144, 7168]⟩
abbrev S6144x1 : Shape := ⟨2, ![6144, 1]⟩
abbrev S6144 : Shape := ⟨1, ![6144]⟩

abbrev nBuf : Space → Nat
  | .hbm => 47
  | .vmem => 7
  | .smem => 0
  | _ => 0

abbrev bufTy : (tb : Table) → Fin (tcTables nBuf tb) → BufTy
  | .hbm, ⟨0, _⟩ => ⟨S6x1024x5120, .bf16⟩
  | .hbm, ⟨1, _⟩ => ⟨S7168x5120, .i8⟩
  | .hbm, ⟨2, _⟩ => ⟨S7168, .f32⟩
  | .hbm, ⟨3, _⟩ => ⟨S7168, .f32⟩
  | .hbm, ⟨4, _⟩ => ⟨S_, .f32⟩
  | .hbm, ⟨5, _⟩ => ⟨S1x1, .f32⟩
  | .hbm, ⟨6, _⟩ => ⟨S1x1, .f32⟩
  | .hbm, ⟨7, _⟩ => ⟨S1x2, .f32⟩
  | .hbm, ⟨8, _⟩ => ⟨S1x2, .f32⟩
  | .hbm, ⟨9, _⟩ => ⟨S2x2, .f32⟩
  | .hbm, ⟨10, _⟩ => ⟨S2x2, .f32⟩
  | .hbm, ⟨11, _⟩ => ⟨S2x4, .f32⟩
  | .hbm, ⟨12, _⟩ => ⟨S2x4, .f32⟩
  | .hbm, ⟨13, _⟩ => ⟨S4x4, .f32⟩
  | .hbm, ⟨14, _⟩ => ⟨S4x4, .f32⟩
  | .hbm, ⟨15, _⟩ => ⟨S4x8, .f32⟩
  | .hbm, ⟨16, _⟩ => ⟨S4x8, .f32⟩
  | .hbm, ⟨17, _⟩ => ⟨S8x8, .f32⟩
  | .hbm, ⟨18, _⟩ => ⟨S8x8, .f32⟩
  | .hbm, ⟨19, _⟩ => ⟨S8x16, .f32⟩
  | .hbm, ⟨20, _⟩ => ⟨S8x16, .f32⟩
  | .hbm, ⟨21, _⟩ => ⟨S16x16, .f32⟩
  | .hbm, ⟨22, _⟩ => ⟨S16x16, .f32⟩
  | .hbm, ⟨23, _⟩ => ⟨S16x32, .f32⟩
  | .hbm, ⟨24, _⟩ => ⟨S16x32, .f32⟩
  | .hbm, ⟨25, _⟩ => ⟨S32x32, .f32⟩
  | .hbm, ⟨26, _⟩ => ⟨S32x32, .f32⟩
  | .hbm, ⟨27, _⟩ => ⟨S32x64, .f32⟩
  | .hbm, ⟨28, _⟩ => ⟨S32x64, .f32⟩
  | .hbm, ⟨29, _⟩ => ⟨S64x64, .f32⟩
  | .hbm, ⟨30, _⟩ => ⟨S64x64, .f32⟩
  | .hbm, ⟨31, _⟩ => ⟨S64x128, .f32⟩
  | .hbm, ⟨32, _⟩ => ⟨S64x128, .f32⟩
  | .hbm, ⟨33, _⟩ => ⟨S128x128, .f32⟩
  | .hbm, ⟨34, _⟩ => ⟨S_, .f32⟩
  | .hbm, ⟨35, _⟩ => ⟨S128x128, .f32⟩
  | .hbm, ⟨36, _⟩ => ⟨S128x128, .f32⟩
  | .hbm, ⟨37, _⟩ => ⟨S6x1024x5120, .f32⟩
  | .hbm, ⟨38, _⟩ => ⟨S6x1024x40x128, .f32⟩
  | .hbm, ⟨39, _⟩ => ⟨S6x1024x40x128, .f32⟩
  | .hbm, ⟨40, _⟩ => ⟨S6x1024x5120, .f32⟩
  | .hbm, ⟨41, _⟩ => ⟨S6144x5120, .f32⟩
  | .hbm, ⟨42, _⟩ => ⟨S1x7168, .f32⟩
  | .hbm, ⟨43, _⟩ => ⟨S1x7168, .f32⟩
  | .hbm, ⟨44, _⟩ => ⟨S6144x7168, .bf16⟩
  | .hbm, ⟨45, _⟩ => ⟨S6144x5120, .i8⟩
  | .hbm, ⟨46, _⟩ => ⟨S6144x1, .f32⟩
  | .local _ .vmem, ⟨0, _⟩ => ⟨S6144x5120, .f32⟩
  | .local _ .vmem, ⟨1, _⟩ => ⟨S7168x5120, .i8⟩
  | .local _ .vmem, ⟨2, _⟩ => ⟨S1x7168, .f32⟩
  | .local _ .vmem, ⟨3, _⟩ => ⟨S1x7168, .f32⟩
  | .local _ .vmem, ⟨4, _⟩ => ⟨S6144x7168, .bf16⟩
  | .local _ .vmem, ⟨5, _⟩ => ⟨S6144x5120, .i8⟩
  | .local _ .vmem, ⟨6, _⟩ => ⟨S6144x1, .f32⟩
  | _, _ => ⟨S6x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_call1_v0 : Ref sig .tc := ⟨.hbm, 11, rfl⟩
abbrev main_call1_v1 : Ref sig .tc := ⟨.hbm, 12, rfl⟩
abbrev main_v4 : Ref sig .tc := ⟨.hbm, 13, rfl⟩
abbrev main_v5 : Ref sig .tc := ⟨.hbm, 14, rfl⟩
abbrev main_call2_v0 : Ref sig .tc := ⟨.hbm, 15, rfl⟩
abbrev main_call2_v1 : Ref sig .tc := ⟨.hbm, 16, rfl⟩
abbrev main_v6 : Ref sig .tc := ⟨.hbm, 17, rfl⟩
abbrev main_v7 : Ref sig .tc := ⟨.hbm, 18, rfl⟩
abbrev main_call3_v0 : Ref sig .tc := ⟨.hbm, 19, rfl⟩
abbrev main_call3_v1 : Ref sig .tc := ⟨.hbm, 20, rfl⟩
abbrev main_v8 : Ref sig .tc := ⟨.hbm, 21, rfl⟩
abbrev main_v9 : Ref sig .tc := ⟨.hbm, 22, rfl⟩
abbrev main_call4_v0 : Ref sig .tc := ⟨.hbm, 23, rfl⟩
abbrev main_call4_v1 : Ref sig .tc := ⟨.hbm, 24, rfl⟩
abbrev main_v10 : Ref sig .tc := ⟨.hbm, 25, rfl⟩
abbrev main_v11 : Ref sig .tc := ⟨.hbm, 26, rfl⟩
abbrev main_call5_v0 : Ref sig .tc := ⟨.hbm, 27, rfl⟩
abbrev main_call5_v1 : Ref sig .tc := ⟨.hbm, 28, rfl⟩
abbrev main_v12 : Ref sig .tc := ⟨.hbm, 29, rfl⟩
abbrev main_v13 : Ref sig .tc := ⟨.hbm, 30, rfl⟩
abbrev main_call6_v0 : Ref sig .tc := ⟨.hbm, 31, rfl⟩
abbrev main_call6_v1 : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev main_v24_2 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x5120 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x5120 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Trip.lean ====
/- One trip of the row loop of the kernel body, and what the four trips together leave: the codes, the activations the
   product reads, and the row scales of a whole block of 512 rows, each a function of the block of activations and of the
   sign matrix. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp
public import Idealize.ShloMosaic.Lib.ValueIdx
public import Idealize.ShloMosaic.Lib.Pipeline.Value

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- One chunk of 128 rows of activations, rotated: its twenty 256-column slices through the sign matrix, side by
    side, times the rotation's scale. -/
def rotC (x : Vec F S128x5120 .bf16) (s : Vec F S256x256 .bf16) : FVec F S128x5120 .f32 :=
  k0_pay4 (concatenate S128x5120 1 [⟨S128x256, k0_pay11 x s⟩, ⟨S128x256, k0_pay12 x s⟩, ⟨S128x256, k0_pay13 x s⟩, ⟨S128x256, k0_pay14 x s⟩, ⟨S128x256, k0_pay15 x s⟩, ⟨S128x256, k0_pay16 x s⟩, ⟨S128x256, k0_pay17 x s⟩, ⟨S128x256, k0_pay18 x s⟩, ⟨S128x256, k0_pay19 x s⟩, ⟨S128x256, k0_pay20 x s⟩, ⟨S128x256, k0_pay21 x s⟩, ⟨S128x256, k0_pay22 x s⟩, ⟨S128x256, k0_pay23 x s⟩, ⟨S128x256, k0_pay24 x s⟩, ⟨S128x256, k0_pay25 x s⟩, ⟨S128x256, k0_pay26 x s⟩, ⟨S128x256, matmul dot_S128x256_S256x256_S128x256_1_0_0_1_n_n none (k0_pay27 x) s (constant S128x256 .f32 0x00000000#32)⟩, ⟨S128x256, k0_pay1 (k0_pay10 x) s⟩, ⟨S128x256, k0_pay2 (k0_pay10 x) s⟩, ⟨S128x256, k0_pay3 (k0_pay10 x) s⟩] concatenates_S128x256_S128x256_S128x256_S128x256_S128x256_S128x256_S128x256_S128x256_S128x256_S128x256_S128x256_S128x256_S128x256_S128x256_S128x256_S128x256_S128x256_S128x256_S128x256_S128x256_S128x5120_d1)

/-- The chunk's row scales. -/
def scC (x : Vec F S128x5120 .bf16) (s : Vec F S256x256 .bf16) : FVec F S128x1 .f32 := k0_pay5 (rotC x s)

/-- The chunk divided by its row scales, rounded and clipped. -/
def qC (x : Vec F S128x5120 .bf16) (s : Vec F S256x256 .bf16) : FVec F S128x5120 .f32 := k0_pay6 (rotC x s) (scC x s)

/-- Rows `128 k … 128 k + 127` of a block of activations. -/
def rowsOf (x : Vec F S512x5120 .bf16) (k : Fin 4) : Vec F S128x5120 .bf16 := fun j =>
  x (ix2 (⟨128 * k.val + (j 0).val, by have h : (j 0).val < 128 := (j 0).isLt; have := k.isLt; omega⟩ : Fin 512) (⟨(j 1).val, (j 1).isLt⟩ : Fin 5120))

theorem trips_eq : k0_t1_loop.trips = 4 := by decide +kernel
theorem off1_eq (k : Fin k0_t1_loop.trips) : k0_off1 k = ![128 * k.val, 0] := by revert k; decide +kernel
theorem off2_eq (k : Fin k0_t1_loop.trips) : k0_off2 k = ![128 * k.val, 0] := by revert k; decide +kernel

/-- The chunk of a block that row `r` is in, -/
def chunk (r : Fin 512) : Fin 4 := ⟨r.val / 128, by have := r.isLt; omega⟩
/-- and its place in it. -/
def place (r : Fin 512) : Fin 128 := ⟨r.val % 128, by omega⟩

/-- The codes of a block of activations `x` under the sign matrix `s`. -/
def codesB (x : Vec F S512x5120 .bf16) (s : Vec F S256x256 .bf16) : Vec F S512x5120 .i8 := fun y =>
  k0_pay7 (qC (rowsOf x (chunk (y 0))) s) (ix2 (place (y 0)) (⟨(y 1).val, (y 1).isLt⟩ : Fin 5120))

/-- The codes as the product reads them. -/
def lhsB (x : Vec F S512x5120 .bf16) (s : Vec F S256x256 .bf16) : Vec F S512x5120 .bf16 := fun y =>
  k0_pay8 (qC (rowsOf x (chunk (y 0))) s) (ix2 (place (y 0)) (⟨(y 1).val, (y 1).isLt⟩ : Fin 5120))

/-- The block's row scales. -/
def scalesB (x : Vec F S512x5120 .bf16) (s : Vec F S256x256 .bf16) : Vec F S512x1 .f32 := fun y =>
  scC (rowsOf x (chunk (y 0))) s (ix2 (place (y 0)) (⟨(y 1).val, (y 1).isLt⟩ : Fin 1))

/-- The chunk trip `k` loads. -/
def ldX (arg2 : Memref sig .tc .vmem S512x5120 .bf16) (X : BufTy.Contents (Elt F) arg2.view.ty) (i : grid0.Coords) (h : k0_cond1 i = 1#1)
    (k : Fin k0_t1_loop.trips) : Vec F S128x5120 .bf16 :=
  arg2.view.readAt (Elt F) (Rect.unit (s := S512x5120) (k0_off1 k) S128x5120.size (k0_off1_inb i k h)).toLoadRect X

/-- The sign matrix it loads. -/
def ldS (arg3 : Memref sig .tc .vmem S256x256 .bf16) (X : BufTy.Contents (Elt F) arg3.view.ty) : Vec F S256x256 .bf16 :=
  arg3.view.readAt (Elt F) (Rect.unit (s := S256x256) ![0, 0] S256x256.size inb_S256x256_S256x256_0_0).toLoadRect X

set_option maxHeartbeats 1000000 in
/-- What one trip writes: its rows of the codes, of the row scales, and of the codes as the product reads them. -/
theorem trip_pieces (𝒱 : Variants) (c : Dev nD) (bd : Option 𝒱.V) (i : grid0.Coords) (arg2 : Memref sig .tc .vmem S512x5120 .bf16) (harg2 : arg2.IsWhole) (arg3 : Memref sig .tc .vmem S256x256 .bf16) (harg3 : arg3.IsWhole) (arg4 : Memref sig .tc .vmem S1024x5120 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .bf16) (harg7 : arg7.IsWhole) (arg8 : Memref sig .tc .vmem S512x5120 .i8) (harg8 : arg8.IsWhole) (arg9 : Memref sig .tc .vmem S512x1 .f32) (harg9 : arg9.IsWhole) (arg10 : Memref sig .tc .vmem S512x5120 .bf16) (harg10 : arg10.IsWhole) (k0_h1 : k0_cond1 i = 1#1) (X2 : BufTy.Contents (Elt F) arg2.view.ty) (X3 : BufTy.Contents (Elt F) arg3.view.ty) (k : Fin k0_t1_loop.trips) :
    tripL_k0_t1 (F := F) 𝒱 c bd i arg2 harg2 arg3 harg3 arg4 harg4 arg5 harg5 arg6 harg6 arg7 harg7 arg8 harg8 arg9 harg9 arg10 harg10 k0_h1 X2 X3 k
      = ([⟨Rect.unit (s := S512x5120) (k0_off1 k) S128x5120.size (k0_off1_inb i k k0_h1), k0_pay7 (qC (ldX arg2 X2 i k0_h1 k) (ldS arg3 X3))⟩],
         [⟨Rect.unit (s := S512x1) (k0_off2 k) S128x1.size (k0_off2_inb i k k0_h1), scC (ldX arg2 X2 i k0_h1 k) (ldS arg3 X3)⟩],
         [⟨Rect.unit (s := S512x5120) (k0_off1 k) S128x5120.size (k0_off1_inb i k k0_h1), k0_pay8 (qC (ldX arg2 X2 i k0_h1 k) (ldS arg3 X3))⟩]) := by
  unfold tripL_k0_t1 trip_k0_t1
  rfl

/-- The whole list of the trips before `n`, window by window, trip by trip. -/
theorem mem_pb (𝒱 : Variants) (c : Dev nD) (bd : Option 𝒱.V) (i : grid0.Coords) (arg2 : Memref sig .tc .vmem S512x5120 .bf16) (harg2 : arg2.IsWhole) (arg3 : Memref sig .tc .vmem S256x256 .bf16) (harg3 : arg3.IsWhole) (arg4 : Memref sig .tc .vmem S1024x5120 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .bf16) (harg7 : arg7.IsWhole) (arg8 : Memref sig .tc .vmem S512x5120 .i8) (harg8 : arg8.IsWhole) (arg9 : Memref sig .tc .vmem S512x1 .f32) (harg9 : arg9.IsWhole) (arg10 : Memref sig .tc .vmem S512x5120 .bf16) (harg10 : arg10.IsWhole) (k0_h1 : k0_cond1 i = 1#1) (X2 : BufTy.Contents (Elt F) arg2.view.ty) (X3 : BufTy.Contents (Elt F) arg3.view.ty) : ∀ n ≤ k0_t1_loop.trips,
    (∀ p, p ∈ (pb_k0_t1 (F := F) 𝒱 c bd i arg2 harg2 arg3 harg3 arg4 harg4 arg5 harg5 arg6 harg6 arg7 harg7 arg8 harg8 arg9 harg9 arg10 harg10 k0_h1 X2 X3 n).1 ↔ ∃ k : Fin k0_t1_loop.trips, k.val < n ∧ p = ⟨Rect.unit (s := S512x5120) (k0_off1 k) S128x5120.size (k0_off1_inb i k k0_h1), k0_pay7 (qC (ldX arg2 X2 i k0_h1 k) (ldS arg3 X3))⟩)
    ∧ (∀ p, p ∈ (pb_k0_t1 (F := F) 𝒱 c bd i arg2 harg2 arg3 harg3 arg4 harg4 arg5 harg5 arg6 harg6 arg7 harg7 arg8 harg8 arg9 harg9 arg10 harg10 k0_h1 X2 X3 n).2.1 ↔ ∃ k : Fin k0_t1_loop.trips, k.val < n ∧ p = ⟨Rect.unit (s := S512x1) (k0_off2 k) S128x1.size (k0_off2_inb i k k0_h1), scC (ldX arg2 X2 i k0_h1 k) (ldS arg3 X3)⟩)
    ∧ (∀ p, p ∈ (pb_k0_t1 (F := F) 𝒱 c bd i arg2 harg2 arg3 harg3 arg4 harg4 arg5 harg5 arg6 harg6 arg7 harg7 arg8 harg8 arg9 harg9 arg10 harg10 k0_h1 X2 X3 n).2.2 ↔ ∃ k : Fin k0_t1_loop.trips, k.val < n ∧ p = ⟨Rect.unit (s := S512x5120) (k0_off1 k) S128x5120.size (k0_off1_inb i k k0_h1), k0_pay8 (qC (ldX arg2 X2 i k0_h1 k) (ldS arg3 X3))⟩)
  | 0, _ => ⟨fun p => ⟨fun h => absurd h List.not_mem_nil, fun ⟨_, h, _⟩ => absurd h (Nat.not_lt_zero _)⟩,
      fun p => ⟨fun h => absurd h List.not_mem_nil, fun ⟨_, h, _⟩ => absurd h (Nat.not_lt_zero _)⟩,
      fun p => ⟨fun h => absurd h List.not_mem_nil, fun ⟨_, h, _⟩ => absurd h (Nat.not_lt_zero _)⟩⟩
  | n + 1, hn => by
    have ih := mem_pb 𝒱 c bd i arg2 harg2 arg3 harg3 arg4 harg4 arg5 harg5 arg6 harg6 arg7 harg7 arg8 harg8 arg9 harg9 arg10 harg10 k0_h1 X2 X3 n (by omega)
    have e := pb_k0_t1_succ (F := F) 𝒱 c bd i arg2 harg2 arg3 harg3 arg4 harg4 arg5 harg5 arg6 harg6 arg7 harg7 arg8 harg8 arg9 harg9 arg10 harg10 k0_h1 X2 X3 ⟨n, hn⟩
    rw [trip_pieces] at e
    dsimp only at e
    rw [e]
    refine ⟨fun p => ?_, fun p => ?_, fun p => ?_⟩ <;> dsimp only
    · rw [List.cons_append, List.nil_append, List.mem_cons, ih.1 p]
      constructor
      · rintro (h | ⟨k, hk, h⟩)
        · exact ⟨⟨n, hn⟩, Nat.lt_succ_self _, h⟩
        · exact ⟨k, by omega, h⟩
      · rintro ⟨k, hk, h⟩
        rcases Nat.lt_succ_iff_lt_or_eq.mp hk with hk | hk
        · exact .inr ⟨k, hk, h⟩
        · obtain rfl : k = ⟨n, hn⟩ := Fin.ext hk
          exact .inl h
    · rw [List.cons_append, List.nil_append, List.mem_cons, ih.2.1 p]
      constructor
      · rintro (h | ⟨k, hk, h⟩)
        · exact ⟨⟨n, hn⟩, Nat.lt_succ_self _, h⟩
        · exact ⟨k, by omega, h⟩
      · rintro ⟨k, hk, h⟩
        rcases Nat.lt_succ_iff_lt_or_eq.mp hk with hk | hk
        · exact .inr ⟨k, hk, h⟩
        · obtain rfl : k = ⟨n, hn⟩ := Fin.ext hk
          exact .inl h
    · rw [List.cons_append, List.nil_append, List.mem_cons, ih.2.2 p]
      constructor
      · rintro (h | ⟨k, hk, h⟩)
        · exact ⟨⟨n, hn⟩, Nat.lt_succ_self _, h⟩
        · exact ⟨k, by omega, h⟩
      · rintro ⟨k, hk, h⟩
        rcases Nat.lt_succ_iff_lt_or_eq.mp hk with hk | hk
        · exact .inr ⟨k, hk, h⟩
        · obtain rfl : k = ⟨n, hn⟩ := Fin.ext hk
          exact .inl h

/-- Where a trip's rectangle of a block 5120 wide puts row `a`, column `b`, -/
theorem emb1 (k : Fin k0_t1_loop.trips) (inb) (x : (Rect.unit (s := S512x5120) (k0_off1 k) S128x5120.size inb).shape.Idx) :
    ((Rect.unit (s := S512x5120) (k0_off1 k) S128x5120.size inb).emb x 0).val = 128 * k.val + (x 0).val
    ∧ ((Rect.unit (s := S512x5120) (k0_off1 k) S128x5120.size inb).emb x 1).val = (x 1).val := by
  constructor
  · have e : k0_off1 k 0 = 128 * k.val := by rw [off1_eq]; rfl
    show k0_off1 k 0 + 1 * (x 0).val = _
    omega
  · have e : k0_off1 k 1 = 0 := by rw [off1_eq]; rfl
    show k0_off1 k 1 + 1 * (x 1).val = _
    omega

/-- and of a block one column wide. -/
theorem emb2 (k : Fin k0_t1_loop.trips) (inb) (x : (Rect.unit (s := S512x1) (k0_off2 k) S128x1.size inb).shape.Idx) :
    ((Rect.unit (s := S512x1) (k0_off2 k) S128x1.size inb).emb x 0).val = 128 * k.val + (x 0).val
    ∧ ((Rect.unit (s := S512x1) (k0_off2 k) S128x1.size inb).emb x 1).val = (x 1).val := by
  constructor
  · have e : k0_off2 k 0 = 128 * k.val := by rw [off2_eq]; rfl
    show k0_off2 k 0 + 1 * (x 0).val = _
    omega
  · have e : k0_off2 k 1 = 0 := by rw [off2_eq]; rfl
    show k0_off2 k 1 + 1 * (x 1).val = _
    omega

theorem mem1 (y : S512x5120.Idx) (k : Fin k0_t1_loop.trips) (inb) (h : (y 0).val / 128 = k.val) :
    y ∈ (Rect.unit (s := S512x5120) (k0_off1 k) S128x5120.size inb).set := by
  rw [Rect.mem_set_unit, off1_eq]
  have h0 : (y 0).val < 512 := (y 0).isLt
  have h1 : (y 1).val < 5120 := (y 1).isLt
  refine Fin.forall_fin_two.mpr ⟨⟨?_, ?_⟩, ?_, ?_⟩
  · show 128 * k.val ≤ (y 0).val; omega
  · show (y 0).val < 128 * k.val + 128; omega
  · show 0 ≤ (y 1).val; omega
  · show (y 1).val < 0 + 5120; omega

theorem mem2 (y : S512x1.Idx) (k : Fin k0_t1_loop.trips) (inb) (h : (y 0).val / 128 = k.val) :
    y ∈ (Rect.unit (s := S512x1) (k0_off2 k) S128x1.size inb).set := by
  rw [Rect.mem_set_unit, off2_eq]
  have h0 : (y 0).val < 512 := (y 0).isLt
  have h1 : (y 1).val < 1 := (y 1).isLt
  refine Fin.forall_fin_two.mpr ⟨⟨?_, ?_⟩, ?_, ?_⟩
  · show 128 * k.val ≤ (y 0).val; omega
  · show (y 0).val < 128 * k.val + 128; omega
  · show 0 ≤ (y 1).val; omega
  · show (y 1).val < 0 + 1; omega

theorem hz2 : (![0, 0] : Fin 2 → Nat) = fun _ => 0 := by decide

/-- What a trip loads, of buffers that hold the block `x` and the sign matrix `s`. -/
theorem ldX_unread (arg2 : Memref sig .tc .vmem S512x5120 .bf16) (harg2 : arg2.IsWhole) (x : Vec F S512x5120 .bf16) (i : grid0.Coords) (h : k0_cond1 i = 1#1)
    (k : Fin k0_t1_loop.trips) : ldX arg2 (harg2.unread x) i h k = rowsOf x ⟨k.val, lt_of_lt_of_eq k.isLt trips_eq⟩ := by
  unfold ldX
  rw [View.readAt_eq_ld, harg2.read_unread]
  funext j
  show x _ = x _
  refine congrArg x (funext fun a => Fin.ext ?_)
  have e := emb1 k (k0_off1_inb i k h) j
  match a with
  | ⟨0, _⟩ => exact e.1
  | ⟨1, _⟩ => exact e.2

theorem ldS_unread (arg3 : Memref sig .tc .vmem S256x256 .bf16) (harg3 : arg3.IsWhole) (s : Vec F S256x256 .bf16) : ldS arg3 (harg3.unread s) = s := by
  unfold ldS
  rw [View.readAt_eq_ld, harg3.read_unread]
  funext j
  show s _ = s _
  refine congrArg s (funext fun a => Fin.ext ?_)
  match a with
  | ⟨0, _⟩ => show 0 + 1 * (j 0).val = (j 0).val; omega
  | ⟨1, _⟩ => show 0 + 1 * (j 1).val = (j 1).val; omega

section
variable (𝒱 : Variants) (c : Dev nD) (bd : Option 𝒱.V) (i : grid0.Coords) (arg2 : Memref sig .tc .vmem S512x5120 .bf16) (harg2 : arg2.IsWhole) (arg3 : Memref sig .tc .vmem S256x256 .bf16) (harg3 : arg3.IsWhole) (arg4 : Memref sig .tc .vmem S1024x5120 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .bf16) (harg7 : arg7.IsWhole) (arg8 : Memref sig .tc .vmem S512x5120 .i8) (harg8 : arg8.IsWhole) (arg9 : Memref sig .tc .vmem S512x1 .f32) (harg9 : arg9.IsWhole) (arg10 : Memref sig .tc .vmem S512x5120 .bf16) (harg10 : arg10.IsWhole) (k0_h1 : k0_cond1 i = 1#1) (x : Vec F S512x5120 .bf16) (s : Vec F S256x256 .bf16)

/-- The four trips cover the block: every index is in its chunk's rectangle. -/
theorem cover_codes (y : S512x5120.Idx) : ∃ p ∈ (pb_k0_t1 (F := F) 𝒱 c bd i arg2 harg2 arg3 harg3 arg4 harg4 arg5 harg5 arg6 harg6 arg7 harg7 arg8 harg8 arg9 harg9 arg10 harg10 k0_h1 (harg2.unread x) (harg3.unread s) k0_t1_loop.trips).1, y ∈ p.1.set := by
  have h0 : (y 0).val < 512 := (y 0).isLt
  have hk : (y 0).val / 128 < k0_t1_loop.trips := by rw [trips_eq]; omega
  exact ⟨_, ((mem_pb 𝒱 c bd i arg2 harg2 arg3 harg3 arg4 harg4 arg5 harg5 arg6 harg6 arg7 harg7 arg8 harg8 arg9 harg9 arg10 harg10 k0_h1 _ _ _ le_rfl).1 _).mpr ⟨⟨_, hk⟩, hk, rfl⟩, mem1 y _ (k0_off1_inb i _ k0_h1) rfl⟩
theorem cover_scales (y : S512x1.Idx) : ∃ p ∈ (pb_k0_t1 (F := F) 𝒱 c bd i arg2 harg2 arg3 harg3 arg4 harg4 arg5 harg5 arg6 harg6 arg7 harg7 arg8 harg8 arg9 harg9 arg10 harg10 k0_h1 (harg2.unread x) (harg3.unread s) k0_t1_loop.trips).2.1, y ∈ p.1.set := by
  have h0 : (y 0).val < 512 := (y 0).isLt
  have hk : (y 0).val / 128 < k0_t1_loop.trips := by rw [trips_eq]; omega
  exact ⟨_, ((mem_pb 𝒱 c bd i arg2 harg2 arg3 harg3 arg4 harg4 arg5 harg5 arg6 harg6 arg7 harg7 arg8 harg8 arg9 harg9 arg10 harg10 k0_h1 _ _ _ le_rfl).2.1 _).mpr ⟨⟨_, hk⟩, hk, rfl⟩, mem2 y _ (k0_off2_inb i _ k0_h1) rfl⟩
theorem cover_lhs (y : S512x5120.Idx) : ∃ p ∈ (pb_k0_t1 (F := F) 𝒱 c bd i arg2 harg2 arg3 harg3 arg4 harg4 arg5 harg5 arg6 harg6 arg7 harg7 arg8 harg8 arg9 harg9 arg10 harg10 k0_h1 (harg2.unread x) (harg3.unread s) k0_t1_loop.trips).2.2, y ∈ p.1.set := by
  have h0 : (y 0).val < 512 := (y 0).isLt
  have hk : (y 0).val / 128 < k0_t1_loop.trips := by rw [trips_eq]; omega
  exact ⟨_, ((mem_pb 𝒱 c bd i arg2 harg2 arg3 harg3 arg4 harg4 arg5 harg5 arg6 harg6 arg7 harg7 arg8 harg8 arg9 harg9 arg10 harg10 k0_h1 _ _ _ le_rfl).2.2 _).mpr ⟨⟨_, hk⟩, hk, rfl⟩, mem1 y _ (k0_off1_inb i _ k0_h1) rfl⟩

/-- So what the loop leaves in each buffer is the block's closed form. -/
theorem canon_codes : View.canon (pb_k0_t1 (F := F) 𝒱 c bd i arg2 harg2 arg3 harg3 arg4 harg4 arg5 harg5 arg6 harg6 arg7 harg7 arg8 harg8 arg9 harg9 arg10 harg10 k0_h1 (harg2.unread x) (harg3.unread s) k0_t1_loop.trips).1 = codesB x s := by
  funext y
  refine View.canon_apply_of_pieces (codesB x s) _ ?_ y (cover_codes 𝒱 c bd i arg2 harg2 arg3 harg3 arg4 harg4 arg5 harg5 arg6 harg6 arg7 harg7 arg8 harg8 arg9 harg9 arg10 harg10 k0_h1 x s y)
  intro p hp z
  obtain ⟨k, -, rfl⟩ := ((mem_pb 𝒱 c bd i arg2 harg2 arg3 harg3 arg4 harg4 arg5 harg5 arg6 harg6 arg7 harg7 arg8 harg8 arg9 harg9 arg10 harg10 k0_h1 _ _ _ le_rfl).1 _).mp hp
  obtain ⟨e0, e1⟩ := emb1 k (k0_off1_inb i k k0_h1) z
  have hz : (z 0).val < 128 := (z 0).isLt
  unfold codesB
  show k0_pay7 (qC (ldX arg2 (harg2.unread x) i k0_h1 k) (ldS arg3 (harg3.unread s))) z = _
  rw [ldX_unread, ldS_unread]
  have hc : chunk ((Rect.unit (s := S512x5120) (k0_off1 k) S128x5120.size (k0_off1_inb i k k0_h1)).emb z 0) = ⟨k.val, lt_of_lt_of_eq k.isLt trips_eq⟩ :=
    Fin.ext (by show ((Rect.unit (s := S512x5120) (k0_off1 k) S128x5120.size (k0_off1_inb i k k0_h1)).emb z 0).val / 128 = k.val; rw [e0]; omega)
  rw [hc]
  refine congrArg _ (funext fun a => Fin.ext ?_)
  match a with
  | ⟨0, _⟩ => show (z 0).val = ((Rect.unit (s := S512x5120) (k0_off1 k) S128x5120.size (k0_off1_inb i k k0_h1)).emb z 0).val % 128; rw [e0]; omega
  | ⟨1, _⟩ => exact e1.symm

theorem canon_lhs : View.canon (pb_k0_t1 (F := F) 𝒱 c bd i arg2 harg2 arg3 harg3 arg4 harg4 arg5 harg5 arg6 harg6 arg7 harg7 arg8 harg8 arg9 harg9 arg10 harg10 k0_h1 (harg2.unread x) (harg3.unread s) k0_t1_loop.trips).2.2 = lhsB x s := by
  funext y
  refine View.canon_apply_of_pieces (lhsB x s) _ ?_ y (cover_lhs 𝒱 c bd i arg2 harg2 arg3 harg3 arg4 harg4 arg5 harg5 arg6 harg6 arg7 harg7 arg8 harg8 arg9 harg9 arg10 harg10 k0_h1 x s y)
  intro p hp z
  obtain ⟨k, -, rfl⟩ := ((mem_pb 𝒱 c bd i arg2 harg2 arg3 harg3 arg4 harg4 arg5 harg5 arg6 harg6 arg7 harg7 arg8 harg8 arg9 harg9 arg10 harg10 k0_h1 _ _ _ le_rfl).2.2 _).mp hp
  obtain ⟨e0, e1⟩ := emb1 k (k0_off1_inb i k k0_h1) z
  have hz : (z 0).val < 128 := (z 0).isLt
  unfold lhsB
  show k0_pay8 (qC (ldX arg2 (harg2.unread x) i k0_h1 k) (ldS arg3 (harg3.unread s))) z = _
  rw [ldX_unread, ldS_unread]
  have hc : chunk ((Rect.unit (s := S512x5120) (k0_off1 k) S128x5120.size (k0_off1_inb i k k0_h1)).emb z 0) = ⟨k.val, lt_of_lt_of_eq k.isLt trips_eq⟩ :=
    Fin.ext (by show ((Rect.unit (s := S512x5120) (k0_off1 k) S128x5120.size (k0_off1_inb i k k0_h1)).emb z 0).val / 128 = k.val; rw [e0]; omega)
  rw [hc]
  refine congrArg _ (funext fun a => Fin.ext ?_)
  match a with
  | ⟨0, _⟩ => show (z 0).val = ((Rect.unit (s := S512x5120) (k0_off1 k) S128x5120.size (k0_off1_inb i k k0_h1)).emb z 0).val % 128; rw [e0]; omega
  | ⟨1, _⟩ => exact e1.symm

theorem canon_scales : View.canon (pb_k0_t1 (F := F) 𝒱 c bd i arg2 harg2 arg3 harg3 arg4 harg4 arg5 harg5 arg6 harg6 arg7 harg7 arg8 harg8 arg9 harg9 arg10 harg10 k0_h1 (harg2.unread x) (harg3.unread s) k0_t1_loop.trips).2.1 = scalesB x s := by
  funext y
  refine View.canon_apply_of_pieces (scalesB x s) _ ?_ y (cover_scales 𝒱 c bd i arg2 harg2 arg3 harg3 arg4 harg4 arg5 harg5 arg6 harg6 arg7 harg7 arg8 harg8 arg9 harg9 arg10 harg10 k0_h1 x s y)
  intro p hp z
  obtain ⟨k, -, rfl⟩ := ((mem_pb 𝒱 c bd i arg2 harg2 arg3 harg3 arg4 harg4 arg5 harg5 arg6 harg6 arg7 harg7 arg8 harg8 arg9 harg9 arg10 harg10 k0_h1 _ _ _ le_rfl).2.1 _).mp hp
  obtain ⟨e0, e1⟩ := emb2 k (k0_off2_inb i k k0_h1) z
  have hz : (z 0).val < 128 := (z 0).isLt
  unfold scalesB
  show scC (ldX arg2 (harg2.unread x) i k0_h1 k) (ldS arg3 (harg3.unread s)) z = _
  rw [ldX_unread, ldS_unread]
  have hc : chunk ((Rect.unit (s := S512x1) (k0_off2 k) S128x1.size (k0_off2_inb i k k0_h1)).emb z 0) = ⟨k.val, lt_of_lt_of_eq k.isLt trips_eq⟩ :=
    Fin.ext (by show ((Rect.unit (s := S512x1) (k0_off2 k) S128x1.size (k0_off2_inb i k k0_h1)).emb z 0).val / 128 = k.val; rw [e0]; omega)
  rw [hc]
  refine congrArg _ (funext fun a => Fin.ext ?_)
  match a with
  | ⟨0, _⟩ => show (z 0).val = ((Rect.unit (s := S512x1) (k0_off2 k) S128x1.size (k0_off2_inb i k k0_h1)).emb z 0).val % 128; rw [e0]; omega
  | ⟨1, _⟩ => exact e1.symm
end

end Cert.KernelIdeal.Body

end
-- ==== Proof.Body.lean ====
/- The kernel body run once, at a point that rotates and quantises its rows and at a point that reads them again:
   what each buffer ends with, a function of what the body was handed. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp
public import Idealize.ShloMosaic.Lib.VecWindow
public import proofs.«01_k».proof.Proof.Trip

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point that rotates its rows: from any contents of the outputs' buffers and of the scratch, it leaves
    the codes, the row scales, the codes as the product reads them, and the block of the product. -/
theorem runA (c : Dev nD) (i : grid0.Coords) (arg2 : Memref sig .tc .vmem S512x5120 .bf16) (harg2 : arg2.IsWhole) (arg3 : Memref sig .tc .vmem S256x256 .bf16) (harg3 : arg3.IsWhole) (arg4 : Memref sig .tc .vmem S1024x5120 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .bf16) (harg7 : arg7.IsWhole) (arg8 : Memref sig .tc .vmem S512x5120 .i8) (harg8 : arg8.IsWhole) (arg9 : Memref sig .tc .vmem S512x1 .f32) (harg9 : arg9.IsWhole) (arg10 : Memref sig .tc .vmem S512x5120 .bf16) (harg10 : arg10.IsWhole) (hc0 : k0_cond1 i = 1#1)
    (x0 : Vec F S512x5120 .bf16) (x1 : Vec F S256x256 .bf16) (x2 : Vec F S1024x5120 .i8) (x3 : Vec F S1x1024 .f32) (x4 : Vec F S1x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay9 (lhsB x0 x1) x2 (scalesB x0 x1) x3 x4) ∗ owns (c : Thread nD τ) arg8 fullShare (codesB x0 x1) ∗ owns (c : Thread nD τ) arg9 fullShare (scalesB x0 x1) ∗ owns (c : Thread nD τ) arg10 fullShare (lhsB x0 x1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K := by
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (View.read_writes_full _ _ _ _ _).trans ?_
      unfold runA.sl.v3 runA.sl.v7
      rw [View.readAt_full, View.readAt_full, View.readAt_full, View.readAt_full, View.readAt_full, harg4.read_unread, harg5.read_unread, harg6.read_unread]
      exact congrArg₂ (fun a b => k0_pay9 a x2 b x3 x4) ((View.read_writes_eq_canon _ _ _ (cover_lhs Variants.none c none i arg2 harg2 arg3 harg3 arg4 harg4 arg5 harg5 arg6 harg6 arg7 harg7 arg8 harg8 arg9 harg9 arg10 harg10 hc0 x0 x1)).trans (canon_lhs Variants.none c none i arg2 harg2 arg3 harg3 arg4 harg4 arg5 harg5 arg6 harg6 arg7 harg7 arg8 harg8 arg9 harg9 arg10 harg10 hc0 x0 x1)) ((View.read_writes_eq_canon _ _ _ (cover_scales Variants.none c none i arg2 harg2 arg3 harg3 arg4 harg4 arg5 harg5 arg6 harg6 arg7 harg7 arg8 harg8 arg9 harg9 arg10 harg10 hc0 x0 x1)).trans (canon_scales Variants.none c none i arg2 harg2 arg3 harg3 arg4 harg4 arg5 harg5 arg6 harg6 arg7 harg7 arg8 harg8 arg9 harg9 arg10 harg10 hc0 x0 x1))
    isplitl [H6]
    · iexists _; isplitr; swap; · iexact H6
      ipureintro
      exact (View.read_writes_eq_canon _ _ _ (cover_codes Variants.none c none i arg2 harg2 arg3 harg3 arg4 harg4 arg5 harg5 arg6 harg6 arg7 harg7 arg8 harg8 arg9 harg9 arg10 harg10 hc0 x0 x1)).trans (canon_codes Variants.none c none i arg2 harg2 arg3 harg3 arg4 harg4 arg5 harg5 arg6 harg6 arg7 harg7 arg8 harg8 arg9 harg9 arg10 harg10 hc0 x0 x1)
    isplitl [H7]
    · iexists _; isplitr; swap; · iexact H7
      ipureintro
      exact (View.read_writes_eq_canon _ _ _ (cover_scales Variants.none c none i arg2 harg2 arg3 harg3 arg4 harg4 arg5 harg5 arg6 harg6 arg7 harg7 arg8 harg8 arg9 harg9 arg10 harg10 hc0 x0 x1)).trans (canon_scales Variants.none c none i arg2 harg2 arg3 harg3 arg4 harg4 arg5 harg5 arg6 harg6 arg7 harg7 arg8 harg8 arg9 harg9 arg10 harg10 hc0 x0 x1)
    iexists _; isplitr; swap; · iexact HS0
    ipureintro
    exact (View.read_writes_eq_canon _ _ _ (cover_lhs Variants.none c none i arg2 harg2 arg3 harg3 arg4 harg4 arg5 harg5 arg6 harg6 arg7 harg7 arg8 harg8 arg9 harg9 arg10 harg10 hc0 x0 x1)).trans (canon_lhs Variants.none c none i arg2 harg2 arg3 harg3 arg4 harg4 arg5 harg5 arg6 harg6 arg7 harg7 arg8 harg8 arg9 harg9 arg10 harg10 hc0 x0 x1)

set_option maxHeartbeats 1000000 in
/-- The body at a point that reads again what an earlier one left: the codes, the row scales and the scratch are as
    they were, and the product's block is of what they hold. -/
theorem runB (c : Dev nD) (i : grid0.Coords) (arg2 : Memref sig .tc .vmem S512x5120 .bf16) (harg2 : arg2.IsWhole) (arg3 : Memref sig .tc .vmem S256x256 .bf16) (harg3 : arg3.IsWhole) (arg4 : Memref sig .tc .vmem S1024x5120 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .bf16) (harg7 : arg7.IsWhole) (arg8 : Memref sig .tc .vmem S512x5120 .i8) (harg8 : arg8.IsWhole) (arg9 : Memref sig .tc .vmem S512x1 .f32) (harg9 : arg9.IsWhole) (arg10 : Memref sig .tc .vmem S512x5120 .bf16) (harg10 : arg10.IsWhole) (hc0 : ¬k0_cond1 i = 1#1)
    (x0 : Vec F S512x5120 .bf16) (x1 : Vec F S256x256 .bf16) (x2 : Vec F S1024x5120 .i8) (x3 : Vec F S1x1024 .f32) (x4 : Vec F S1x1024 .f32) (x6 : Vec F S512x5120 .i8) (x7 : Vec F S512x1 .f32) (xs : Vec F S512x5120 .bf16) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare x7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay9 xs x2 x7 x3 x4) ∗ owns (c : Thread nD τ) arg8 fullShare x6 ∗ owns (c : Thread nD τ) arg9 fullShare x7 ∗ owns (c : Thread nD τ) arg10 fullShare xs) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K := by
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hf6; obtain rfl := harg9.eq_unread hf7; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (View.read_writes_full _ _ _ _ _).trans ?_
      rw [View.readAt_full, View.readAt_full, View.readAt_full, View.readAt_full, View.readAt_full, harg4.read_unread, harg5.read_unread, harg6.read_unread, harg9.read_unread, harg10.read_unread]
    isplitl [H6]
    · iexists _; isplitr; · ipureintro; exact harg8.read_unread _
      iexact H6
    isplitl [H7]
    · iexists _; isplitr; · ipureintro; exact harg9.read_unread _
      iexact H7
    iexists _; isplitr; · ipureintro; exact harg10.read_unread _
    iexact HS0

end Cert.KernelIdeal.Body

end
-- ==== Proof.Run.lean ====
/- The run of the idealized kernel: what the body leaves point by point, the scratch carried along a row of the grid, and
   the launch to its final arrays. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp
public import Idealize.ShloMosaic.Lib.VecWindow
public import proofs.«01_k».proof.Proof.Body
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates. -/
abbrev cond0_0 (i : grid0.Coords) : Prop := k0_cond1 i = 1#1
/-- It holds at the points ≡ 0 (mod 7) — by arithmetic of the point. -/
theorem hcond0_0 : ∀ t : Fin cfg0.N, cond0_0 (grid0.coords t) ↔ t.val % 7 = 0 :=
  (fun t => by
    have ht : t.val < 84 := Nat.lt_of_lt_of_eq t.isLt N_0
    have e0 : (grid0.coords t 0).val = t.val / 7 % 12 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val % 7 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle. -/
theorem liveAt0_5 : ∀ t : Fin cfg0.N, cfg0.idle 5 (grid0.coords t) = false := fun _ => rfl

/-- Each window's current staging memref at point `t`, spelled as the pipeline passes it (`bodyAt0`), and its wholeness. -/
abbrev ms0_0 (t : Fin cfg0.N) : Memref sig .tc .vmem S512x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x5120 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x5120 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S512x5120 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What the scratch holds before point `t`: the activations the product reads of the block the point before rotated or
    read, where `t` is not the first point of a row of the grid; anything where it is. -/
def scr (c : Dev nD) (t : Fin (cfg0.N + 1)) (d : Vec F S512x5120 .bf16) : Prop :=
  ∀ t' : Fin cfg0.N, t.val % 7 ≠ 0 → t.val = t'.val + 1 → d = lhsB (iblk m c 0 t') (iblk m c 1 t')

/-- The proof data: the arrays as the region finds them; after the body at point `t` each input's buffer at its block,
    and the three outputs' at the product's block, the codes and the row scales; the scratch as `scr` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay9 (lhsB (iblk m c 0 t) (iblk m c 1 t)) (iblk m c 2 t) (scalesB (iblk m c 0 t) (iblk m c 1 t)) (iblk m c 3 t) (iblk m c 4 t)
    | ⟨6, _⟩ => codesB (iblk m c 0 t) (iblk m c 1 t)
    | ⟨7, _⟩ => scalesB (iblk m c 0 t) (iblk m c 1 t)
  Φ t := iprop((∃ d, ⌜scr m c t d⌝ ∗ owns (c : Thread nD τ) scM0_0 fullShare d) ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay9 (lhsB (iblk m c 0 t) (iblk m c 1 t)) (iblk m c 2 t) (scalesB (iblk m c 0 t) (iblk m c 1 t)) (iblk m c 3 t) (iblk m c 4 t) := by dsimp only [dats]
theorem after0_6 (c : Dev nD) (t : Fin cfg0.N) : (dats m 0 c).after 6 t = codesB (iblk m c 0 t) (iblk m c 1 t) := by dsimp only [dats]
theorem after0_7 (c : Dev nD) (t : Fin cfg0.N) : (dats m 0 c).after 7 t = scalesB (iblk m c 0 t) (iblk m c 1 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The point before `t`. -/
abbrev prev (t : Fin cfg0.N) : Fin cfg0.N := ⟨t.val - 1, Nat.lt_of_le_of_lt (Nat.sub_le _ _) t.isLt⟩

/-- Along a row of the grid the block of activations stays, -/
theorem iblk0_prev (c : Dev nD) (t : Fin cfg0.N) (h : ¬t.val % 7 = 0) : iblk m c 0 t = iblk m c 0 (prev t) := by
  have hf : (cfg0.win 0).fetch t = false := by
    rw [← Bool.not_eq_true]; exact fun e => h ((fetch0_0 t).mp e)
  have hix := ((cfg0.win 0).index_eq_of_fetch rfl t hf).2
  have e : ∀ t d, (dats m 0 c).fetched 0 t d = iblk m c 0 t := fun t d => by
    unfold Dat.fetched Dat.blockOf iblk; rw [A_eq]; try rfl
  exact (e t (iblk m c 0 t)).symm.trans (((dats m 0 c).fetched_congr 0 hix rfl _).trans (e (prev t) _))

/-- and so does the sign matrix. -/
theorem iblk1_prev (c : Dev nD) (t : Fin cfg0.N) (h : ¬t.val % 7 = 0) : iblk m c 1 t = iblk m c 1 (prev t) := by
  have hf : (cfg0.win 1).fetch t = false := by
    rw [← Bool.not_eq_true]; intro e; have := (fetch0_1 t).mp e; omega
  have hix := ((cfg0.win 1).index_eq_of_fetch rfl t hf).2
  have e : ∀ t d, (dats m 0 c).fetched 1 t d = iblk m c 1 t := fun t d => by
    unfold Dat.fetched Dat.blockOf iblk; rw [A_eq]; try rfl
  exact (e t (iblk m c 1 t)).symm.trans (((dats m 0 c).fetched_congr 1 hix rfl _).trans (e (prev t) _))

theorem idle0_6 (t : Fin cfg0.N) (h : ¬t.val % 7 = 0) : cfg0.idle 6 (grid0.coords t) = true := by
  show (!(k0_cond1 (grid0.coords t) == 1#1)) = true
  rw [Bool.not_eq_true', beq_eq_false_iff_ne]
  exact fun e => h ((hcond0_0 t).mp e)
theorem live0_6 (t : Fin cfg0.N) (h : t.val % 7 = 0) : cfg0.idle 6 (grid0.coords t) = false := by
  show (!(k0_cond1 (grid0.coords t) == 1#1)) = false
  rw [Bool.not_eq_false', beq_iff_eq]
  exact (hcond0_0 t).mpr h

/-- Inside a row of the grid the codes' buffer holds this row's codes. -/
theorem before0_6_at (c : Dev nD) (d) : ∀ (n : ℕ) (t : Fin cfg0.N), t.val = n → ¬n % 7 = 0 → (dats m 0 c).before 6 t d = codesB (iblk m c 0 t) (iblk m c 1 t)
  | 0, _, _, h => absurd rfl h
  | n + 1, t, ht, h => by
    have h7 : ¬t.val % 7 = 0 := by omega
    have hfl : (cfg0.win 6).flush (prev t) = false := by
      rw [← Bool.not_eq_true]; intro e; have := (flush0_6 (prev t)).mp e; have e' : (prev t).val = t.val - 1 := rfl; omega
    rw [(dats m 0 c).before_of_pos 6 t (by omega) ((cfg0.win 6).fetch_out rfl t) d, hfl, if_neg Bool.false_ne_true, iblk0_prev m c t h7, iblk1_prev m c t h7]
    have hp : (prev t).val = n := by show t.val - 1 = n; omega
    unfold Dat.left
    by_cases hn : n % 7 = 0
    · rw [live0_6 (prev t) (by omega)]
      show (dats m 0 c).kept 6 (prev t) d = _
      unfold Dat.kept
      rw [Pipeline.fill_of_clip_none 6 _ (fun _ => rfl) d ((dats m 0 c).after 6 (prev t)), Window.fill_cut, after0_6]
    · rw [idle0_6 (prev t) (by omega)]
      exact before0_6_at c d n (prev t) hp hn

theorem before0_6 (c : Dev nD) (t : Fin cfg0.N) (h : ¬t.val % 7 = 0) (d) : (dats m 0 c).before 6 t d = codesB (iblk m c 0 t) (iblk m c 1 t) :=
  before0_6_at m c d _ t rfl h

/-- Handing the buffer back with them is what the point owes of it. -/
theorem leaves0_6 (c : Dev nD) (t : Fin cfg0.N) : owns (c : Thread nD τ) (ms0_6 t) fullShare (codesB (iblk m c 0 t) (iblk m c 1 t)) ⊢ ((dats m 0 c).leavesExact 6 t : sProp 𝕄) := by
  by_cases h : t.val % 7 = 0
  · rw [show (dats m 0 c).leavesExact 6 t = owns (c : Thread nD τ) (ms0_6 t) fullShare ((dats m 0 c).after 6 t) from by
      unfold Dat.leavesExact; rw [live0_6 t h], after0_6]
  · by_cases hf : (cfg0.win 6).flush t = true
    · rw [show (dats m 0 c).leavesExact 6 t = owns (c : Thread nD τ) (ms0_6 t) fullShare ((dats m 0 c).after 6 t) from by
        unfold Dat.leavesExact; rw [idle0_6 t h, hf], after0_6]
    · rw [Bool.not_eq_true] at hf
      rw [(dats m 0 c).leavesExact_idle 6 t (idle0_6 t h) hf]
      simp only [before0_6 m c t h]
      iintro H
      iexists (codesB (iblk m c 0 t) (iblk m c 1 t))
      iexact H

theorem idle0_7 (t : Fin cfg0.N) (h : ¬t.val % 7 = 0) : cfg0.idle 7 (grid0.coords t) = true := by
  show (!(k0_cond1 (grid0.coords t) == 1#1)) = true
  rw [Bool.not_eq_true', beq_eq_false_iff_ne]
  exact fun e => h ((hcond0_0 t).mp e)
theorem live0_7 (t : Fin cfg0.N) (h : t.val % 7 = 0) : cfg0.idle 7 (grid0.coords t) = false := by
  show (!(k0_cond1 (grid0.coords t) == 1#1)) = false
  rw [Bool.not_eq_false', beq_iff_eq]
  exact (hcond0_0 t).mpr h

/-- Inside a row of the grid the scales' buffer holds this row's scales. -/
theorem before0_7_at (c : Dev nD) (d) : ∀ (n : ℕ) (t : Fin cfg0.N), t.val = n → ¬n % 7 = 0 → (dats m 0 c).before 7 t d = scalesB (iblk m c 0 t) (iblk m c 1 t)
  | 0, _, _, h => absurd rfl h
  | n + 1, t, ht, h => by
    have h7 : ¬t.val % 7 = 0 := by omega
    have hfl : (cfg0.win 7).flush (prev t) = false := by
      rw [← Bool.not_eq_true]; intro e; have := (flush0_7 (prev t)).mp e; have e' : (prev t).val = t.val - 1 := rfl; omega
    rw [(dats m 0 c).before_of_pos 7 t (by omega) ((cfg0.win 7).fetch_out rfl t) d, hfl, if_neg Bool.false_ne_true, iblk0_prev m c t h7, iblk1_prev m c t h7]
    have hp : (prev t).val = n := by show t.val - 1 = n; omega
    unfold Dat.left
    by_cases hn : n % 7 = 0
    · rw [live0_7 (prev t) (by omega)]
      show (dats m 0 c).kept 7 (prev t) d = _
      unfold Dat.kept
      rw [Pipeline.fill_of_clip_none 7 _ (fun _ => rfl) d ((dats m 0 c).after 7 (prev t)), Window.fill_cut, after0_7]
    · rw [idle0_7 (prev t) (by omega)]
      exact before0_7_at c d n (prev t) hp hn

theorem before0_7 (c : Dev nD) (t : Fin cfg0.N) (h : ¬t.val % 7 = 0) (d) : (dats m 0 c).before 7 t d = scalesB (iblk m c 0 t) (iblk m c 1 t) :=
  before0_7_at m c d _ t rfl h

/-- Handing the buffer back with them is what the point owes of it. -/
theorem leaves0_7 (c : Dev nD) (t : Fin cfg0.N) : owns (c : Thread nD τ) (ms0_7 t) fullShare (scalesB (iblk m c 0 t) (iblk m c 1 t)) ⊢ ((dats m 0 c).leavesExact 7 t : sProp 𝕄) := by
  by_cases h : t.val % 7 = 0
  · rw [show (dats m 0 c).leavesExact 7 t = owns (c : Thread nD τ) (ms0_7 t) fullShare ((dats m 0 c).after 7 t) from by
      unfold Dat.leavesExact; rw [live0_7 t h], after0_7]
  · by_cases hf : (cfg0.win 7).flush t = true
    · rw [show (dats m 0 c).leavesExact 7 t = owns (c : Thread nD τ) (ms0_7 t) fullShare ((dats m 0 c).after 7 t) from by
        unfold Dat.leavesExact; rw [idle0_7 t h, hf], after0_7]
    · rw [Bool.not_eq_true] at hf
      rw [(dats m 0 c).leavesExact_idle 7 t (idle0_7 t h) hf]
      simp only [before0_7 m c t h]
      iintro H
      iexists (scalesB (iblk m c 0 t) (iblk m c 1 t))
      iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.castSucc = iprop((∃ d, ⌜scr m c t.castSucc d⌝ ∗ owns (c : Thread nD τ) scM0_0 fullShare d) ∗ (∃ r, prngReg c r)) from rfl,
    show (dats m 0 c).Φ t.succ = iprop((∃ d, ⌜scr m c t.succ d⌝ ∗ owns (c : Thread nD τ) scM0_0 fullShare d) ∗ (∃ r, prngReg c r)) from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hscr : scr m c t.succ (lhsB (iblk m c 0 t) (iblk m c 1 t)) := fun t' _ e => by
    obtain rfl : t = t' := Fin.ext (by have := Fin.val_succ t; omega)
    rfl
  by_cases h0 : t.val % 7 = 0
  · iintro ⟨⟨⟨%ds, -, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t) _ _ _ _ _ _ _ _ _ _ _ _ _ _ _ _ _ _ ((hcond0_0 t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexists _; iexact HS0
    iintro ⟨H0, H1, H2, H3, H4, H5, H6, H7, HS0⟩
    isplitl [HS0 Hg]
    · isplitl [HS0]
      · iexists _; isplitr; swap
        · iexact HS0
        ipureintro; exact hscr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves0_6 m c t); iexact H6
    iapply (leaves0_7 m c t); iexact H7
  · simp only [before0_6 m c t h0, before0_7 m c t h0]
    iintro ⟨⟨⟨%ds, %hds, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hds' : ds = lhsB (iblk m c 0 t) (iblk m c 1 t) := by
      rw [iblk0_prev m c t h0, iblk1_prev m c t h0]
      exact hds (prev t) h0 (by show t.val = t.val - 1 + 1; omega)
    subst hds'
    iapply ((runB c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (codesB (iblk m c 0 t) (iblk m c 1 t)) (scalesB (iblk m c 0 t) (iblk m c 1 t)) (lhsB (iblk m c 0 t) (iblk m c 1 t))) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    iintro ⟨H0, H1, H2, H3, H4, H5, H6, H7, HS0⟩
    isplitl [HS0 Hg]
    · isplitl [HS0]
      · iexists _; isplitr; swap
        · iexact HS0
        ipureintro; exact hscr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves0_6 m c t); iexact H6
    iapply (leaves0_7 m c t); iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant before the first point, -/
theorem hin (c : Dev nD) : (Pipeline.ΦA spec0 c : sProp 𝕄) ⊢ (dats m 0 c).Φ 0 := by
  rw [PhiA0_eq, show (dats m 0 c).Φ 0 = iprop((∃ d, ⌜scr m c 0 d⌝ ∗ owns (c : Thread nD τ) scM0_0 fullShare d) ∗ (∃ r, prngReg c r)) from rfl]
  iintro ⟨⟨%d, H⟩, Hg⟩
  isplitl [H]
  · iexists d; isplitr; swap
    · iexact H
    ipureintro; exact fun _ h => absurd rfl h
  iexact Hg

/-- and after the last. -/
theorem hout (c : Dev nD) : (dats m 0 c).Φ (Fin.last cfg0.N) ⊢ (Pipeline.ΦA spec0 c : sProp 𝕄) := by
  rw [PhiA0_eq, show (dats m 0 c).Φ (Fin.last cfg0.N) = iprop((∃ d, ⌜scr m c (Fin.last cfg0.N) d⌝ ∗ owns (c : Thread nD τ) scM0_0 fullShare d) ∗ (∃ r, prngReg c r)) from rfl]
  iintro ⟨⟨%d, -, H⟩, Hg⟩
  isplitl [H]
  · iexists d; iexact H
  iexact Hg

set_option backward.isDefEq.respectTransparency.types false in
/-- The launch: every final state has the pipeline's arrays at their written-back contents and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Rows.lean ====
/- The mathematics of one row, apart from any program: the Hadamard signs, the rotation of a row of activations, the
   row's scale and its codes, and the integer dot product of codes with weights read as a sum of reals. -/
module

public import Idealize.ShloMosaic.PureOps
public import Idealize.ShloMosaic.PureOps.Ideal
public import Idealize.ShloMosaic.Lib.Pointwise

@[expose] public section

noncomputable section

namespace Cert.Rows

open Idealize.ShloMosaic

/-! ## Signs -/

/-- The Hadamard matrix of size `2 ^ k`, by blocks `[[H, H], [H, −H]]`: is the sign at `(i, j)` a plus? -/
def had : Nat → Nat → Nat → Bool
  | 0, _, _ => true
  | k + 1, i, j =>
    if i < 2 ^ k then (if j < 2 ^ k then had k i j else had k i (j - 2 ^ k))
    else (if j < 2 ^ k then had k (i - 2 ^ k) j else !had k (i - 2 ^ k) (j - 2 ^ k))

/-- A sign as a number. -/
def sgn (b : Bool) : EReal := if b then 1 else -1

theorem sgn_not (b : Bool) : sgn (!b) = -sgn b := by cases b <;> simp [sgn]

/-! ## The rotation -/

/-- The rotation's scale, the constant both programs multiply by. -/
def cRot : EReal := Ideal.ofBits .f32 0x3DB504F3#32

theorem cRot_real : ∃ r : ℝ, 0 ≤ r ∧ cRot = (r : EReal) := by
  refine ⟨(11863283 : ℝ) * (2 : ℝ) ^ (-27 : ℤ), by positivity, ?_⟩
  unfold cRot
  simp [Ideal.ofBits, Ideal.ieee, -EReal.coe_mul]

/-- A nonnegative real factor comes out of a finite sum, whatever the summands. -/
theorem sum_mul_real {ι : Type} (s : Finset ι) (f : ι → EReal) (r : ℝ) (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-- A row of 5120 entries. -/
abbrev Row := Fin 5120 → EReal

/-- The row rotated: each block of 128 entries through the Hadamard signs, times the scale. -/
def rot (x : Row) : Row := fun k =>
  (∑ i : Fin 128, x ⟨128 * (k.val / 128) + i.val, by have := k.isLt; have := i.isLt; omega⟩ * sgn (had 7 i.val (k.val % 128))) * cRot

/-- With the scale multiplied into the matrix instead. -/
theorem rot_eq_inside (x : Row) (k : Fin 5120) :
    ∑ i : Fin 128, x ⟨128 * (k.val / 128) + i.val, by have := k.isLt; have := i.isLt; omega⟩ * (sgn (had 7 i.val (k.val % 128)) * cRot) = rot x k := by
  obtain ⟨r, hr, e⟩ := cRot_real
  unfold rot
  rw [e, ← sum_mul_real _ _ r hr]
  exact Finset.sum_congr rfl fun i _ => (mul_assoc _ _ _).symm

/-- The 256 × 256 block-diagonal sign matrix: two copies of the Hadamard matrix, zero elsewhere. -/
def sgn2 (i j : Nat) : EReal := if i / 128 = j / 128 then sgn (had 7 (i % 128) (j % 128)) else 0

/-- A 256-wide slice of the row through the block-diagonal matrix is the rotation of the 128-block that holds the column. -/
theorem rot_eq_wide (x : Row) (k : Fin 5120) :
    (∑ i : Fin 256, x ⟨256 * (k.val / 256) + i.val, by have := k.isLt; have := i.isLt; omega⟩ * sgn2 i.val (k.val % 256)) * cRot = rot x k := by
  unfold rot
  congr 1
  rw [Fin.sum_univ_two_halves 128 128 rfl]
  have hk := k.isLt
  rcases Nat.lt_or_ge (k.val % 256) 128 with h | h
  · have h2 : ∀ i : Fin 128, sgn2 (128 + i.val) (k.val % 256) = 0 := fun i => by
      unfold sgn2; rw [if_neg]; have := i.isLt; omega
    have h1 : ∀ i : Fin 128, sgn2 i.val (k.val % 256) = sgn (had 7 i.val (k.val % 128)) := fun i => by
      have := i.isLt
      unfold sgn2
      rw [if_pos (by omega), Nat.mod_eq_of_lt this, show k.val % 256 % 128 = k.val % 128 by omega]
    simp only [h1, h2, mul_zero, Finset.sum_const_zero, add_zero]
    refine Finset.sum_congr rfl fun i _ => ?_
    congr 2
    exact Fin.ext (show 256 * (k.val / 256) + i.val = 128 * (k.val / 128) + i.val by omega)
  · have h1 : ∀ i : Fin 128, sgn2 i.val (k.val % 256) = 0 := fun i => by
      unfold sgn2; rw [if_neg]; have := i.isLt; omega
    have h2 : ∀ i : Fin 128, sgn2 (128 + i.val) (k.val % 256) = sgn (had 7 i.val (k.val % 128)) := fun i => by
      have := i.isLt
      unfold sgn2
      rw [if_pos (by omega), show (128 + i.val) % 128 = i.val by omega, show k.val % 256 % 128 = k.val % 128 by omega]
    simp only [h1, h2, mul_zero, Finset.sum_const_zero, zero_add]
    refine Finset.sum_congr rfl fun i _ => ?_
    congr 2
    exact Fin.ext (show 256 * (k.val / 256) + (128 + i.val) = 128 * (k.val / 128) + i.val by omega)

/-! ## Scale and codes -/

/-- The greatest magnitude in a row. -/
def amax (v : Row) : EReal :=
  Finset.fold max (Ideal.ofBits .f32 0xFF800000#32) (fun k => FloatOps.absf (F := Ideal) (φ := .f32) (v k)) Finset.univ

/-- The row's scale: its greatest magnitude times the constant near 1/7, and 1 for a row of zeros. -/
def scale (v : Row) : EReal := if amax v = 0 then 1 else amax v * Ideal.ofBits .f32 0x3E124925#32

/-- An entry divided by the row's scale, rounded to the nearest integer and clipped to `[−7, 7]`. -/
def quant (v : Row) (k : Fin 5120) : EReal :=
  min (Ideal.ofBits .f32 0x40E00000#32) (max (Ideal.ofBits .f32 0xC0E00000#32) (Ideal.liftRound Ideal.roundHalfEven (Ideal.div (v k) (scale v))))

/-- The entry's code. -/
def code (v : Row) (k : Fin 5120) : BitVec 8 := Ideal.fptosi 8 (quant v k)

theorem seven : Ideal.ofBits .f32 0x40E00000#32 = ((7 : ℝ) : EReal) := by
  simp [Ideal.ofBits, Ideal.ieee, -EReal.coe_mul]; norm_num

theorem negSeven : Ideal.ofBits .f32 0xC0E00000#32 = ((-7 : ℝ) : EReal) := by
  simp [Ideal.ofBits, Ideal.ieee, -EReal.coe_mul, -EReal.coe_neg]; norm_num

/-- A rounded and clipped entry is an integer between −7 and 7. -/
theorem quant_int (v : Row) (k : Fin 5120) : ∃ n : ℤ, -7 ≤ n ∧ n ≤ 7 ∧ quant v k = (((n : ℤ) : ℝ) : EReal) := by
  unfold quant
  rw [seven, negSeven]
  generalize Ideal.div (v k) (scale v) = x
  induction x using EReal.rec with
  | bot =>
    refine ⟨-7, by norm_num, by norm_num, ?_⟩
    rw [Ideal.liftRound_bot, max_eq_left bot_le, min_eq_right (by exact_mod_cast (by norm_num : (-7 : ℝ) ≤ 7))]
    norm_num
  | top =>
    refine ⟨7, by norm_num, by norm_num, ?_⟩
    rw [Ideal.liftRound_top, max_eq_right le_top, min_eq_left le_top]
    norm_num
  | coe r =>
    rw [Ideal.liftRound_coe]
    generalize Ideal.roundHalfEven r = n
    refine ⟨min 7 (max (-7) n), le_min (by norm_num) (le_max_left _ _), min_le_left _ _, ?_⟩
    rw [← EReal.coe_strictMono.monotone.map_max, ← EReal.coe_strictMono.monotone.map_min]
    push_cast
    rfl

/-- The code of a clipped entry, read back as a signed integer, is the entry. -/
theorem code_spec (v : Row) (k : Fin 5120) :
    (code v k).toInt.natAbs ≤ 7 ∧ (((code v k).toInt : ℝ) : EReal) = quant v k := by
  obtain ⟨n, h1, h2, e⟩ := quant_int v k
  have hc : (code v k).toInt = n := by
    unfold code Ideal.fptosi
    rw [e, Ideal.toIntClamped_coe, Int.floor_intCast, Int.ceil_intCast, ite_self, BitVec.toInt_ofInt]
    norm_num
    rw [min_eq_right (by omega), max_eq_right (by omega)]
    apply Int.bmod_eq_of_le <;> omega
  rw [hc]
  exact ⟨by omega, e.symm⟩

end Cert.Rows

end
-- ==== Proof.KRows.lean ====
/- The kernel's arithmetic on one chunk of 128 rows and on one block of results, read entry by entry in the terms of
   `Rows`: the rotation, the scales, the codes, and the product with the weights. -/
module

public import proofs.«01_k».proof.Proof.Trip
public import proofs.«01_k».proof.Proof.Rows
public import Idealize.ShloMosaic.Lib.Pointwise

@[expose] public section

set_option maxRecDepth 16384

noncomputable section

namespace Cert.KernelIdeal.KRows

open Cert.KernelIdeal Cert.KernelIdeal.Gen Cert.KernelIdeal.Body Cert.Rows
open Idealize.ShloMosaic

/-- One 256-wide slice of a chunk of rows through the sign matrix. -/
def piece (x : Vec Ideal S128x5120 .bf16) (s : Vec Ideal S256x256 .bf16) (g : Fin 20) : FVec Ideal S128x256 .f32 := fun y =>
  ∑ i : Fin 256, x (ix2 (⟨(y 0).val, (y 0).isLt⟩ : Fin 128) ⟨256 * g.val + i.val, by have := g.isLt; have := i.isLt; omega⟩) * s (ix2 i (⟨(y 1).val, (y 1).isLt⟩ : Fin 256))

theorem p0 (x : Vec Ideal S128x5120 .bf16) (s : Vec Ideal S256x256 .bf16) : k0_pay11 x s = piece x s 0 := by
  funext y; idx_vars y; pointwise [k0_pay11, k0_pay10, piece]

theorem p1 (x : Vec Ideal S128x5120 .bf16) (s : Vec Ideal S256x256 .bf16) : k0_pay12 x s = piece x s 1 := by
  funext y; idx_vars y; pointwise [k0_pay12, k0_pay10, piece]

theorem p2 (x : Vec Ideal S128x5120 .bf16) (s : Vec Ideal S256x256 .bf16) : k0_pay13 x s = piece x s 2 := by
  funext y; idx_vars y; pointwise [k0_pay13, k0_pay10, piece]

theorem p3 (x : Vec Ideal S128x5120 .bf16) (s : Vec Ideal S256x256 .bf16) : k0_pay14 x s = piece x s 3 := by
  funext y; idx_vars y; pointwise [k0_pay14, k0_pay10, piece]

theorem p4 (x : Vec Ideal S128x5120 .bf16) (s : Vec Ideal S256x256 .bf16) : k0_pay15 x s = piece x s 4 := by
  funext y; idx_vars y; pointwise [k0_pay15, k0_pay10, piece]

theorem p5 (x : Vec Ideal S128x5120 .bf16) (s : Vec Ideal S256x256 .bf16) : k0_pay16 x s = piece x s 5 := by
  funext y; idx_vars y; pointwise [k0_pay16, k0_pay10, piece]

theorem p6 (x : Vec Ideal S128x5120 .bf16) (s : Vec Ideal S256x256 .bf16) : k0_pay17 x s = piece x s 6 := by
  funext y; idx_vars y; pointwise [k0_pay17, k0_pay10, piece]

theorem p7 (x : Vec Ideal S128x5120 .bf16) (s : Vec Ideal S256x256 .bf16) : k0_pay18 x s = piece x s 7 := by
  funext y; idx_vars y; pointwise [k0_pay18, k0_pay10, piece]

theorem p8 (x : Vec Ideal S128x5120 .bf16) (s : Vec Ideal S256x256 .bf16) : k0_pay19 x s = piece x s 8 := by
  funext y; idx_vars y; pointwise [k0_pay19, k0_pay10, piece]

theorem p9 (x : Vec Ideal S128x5120 .bf16) (s : Vec Ideal S256x256 .bf16) : k0_pay20 x s = piece x s 9 := by
  funext y; idx_vars y; pointwise [k0_pay20, k0_pay10, piece]

theorem p10 (x : Vec Ideal S128x5120 .bf16) (s : Vec Ideal S256x256 .bf16) : k0_pay21 x s = piece x s 10 := by
  funext y; idx_vars y; pointwise [k0_pay21, k0_pay10, piece]

theorem p11 (x : Vec Ideal S128x5120 .bf16) (s : Vec Ideal S256x256 .bf16) : k0_pay22 x s = piece x s 11 := by
  funext y; idx_vars y; pointwise [k0_pay22, k0_pay10, piece]

theorem p12 (x : Vec Ideal S128x5120 .bf16) (s : Vec Ideal S256x256 .bf16) : k0_pay23 x s = piece x s 12 := by
  funext y; idx_vars y; pointwise [k0_pay23, k0_pay10, piece]

theorem p13 (x : Vec Ideal S128x5120 .bf16) (s : Vec Ideal S256x256 .bf16) : k0_pay24 x s = piece x s 13 := by
  funext y; idx_vars y; pointwise [k0_pay24, k0_pay10, piece]

theorem p14 (x : Vec Ideal S128x5120 .bf16) (s : Vec Ideal S256x256 .bf16) : k0_pay25 x s = piece x s 14 := by
  funext y; idx_vars y; pointwise [k0_pay25, k0_pay10, piece]

theorem p15 (x : Vec Ideal S128x5120 .bf16) (s : Vec Ideal S256x256 .bf16) : k0_pay26 x s = piece x s 15 := by
  funext y; idx_vars y; pointwise [k0_pay26, k0_pay10, piece]

theorem p16 (x : Vec Ideal S128x5120 .bf16) (s : Vec Ideal S256x256 .bf16) : matmul (φ₁ := .bf16) (φ₂ := .bf16) dot_S128x256_S256x256_S128x256_1_0_0_1_n_n none (k0_pay27 x) s (constant (F := Ideal) S128x256 .f32 0x00000000#32) = piece x s 16 := by
  funext y; idx_vars y; pointwise [k0_pay27, k0_pay10, piece]

theorem p17 (x : Vec Ideal S128x5120 .bf16) (s : Vec Ideal S256x256 .bf16) : k0_pay1 (k0_pay10 x) s = piece x s 17 := by
  funext y; idx_vars y; pointwise [k0_pay1, k0_pay10, piece]

theorem p18 (x : Vec Ideal S128x5120 .bf16) (s : Vec Ideal S256x256 .bf16) : k0_pay2 (k0_pay10 x) s = piece x s 18 := by
  funext y; idx_vars y; pointwise [k0_pay2, k0_pay10, piece]

theorem p19 (x : Vec Ideal S128x5120 .bf16) (s : Vec Ideal S256x256 .bf16) : k0_pay3 (k0_pay10 x) s = piece x s 19 := by
  funext y; idx_vars y; pointwise [k0_pay3, k0_pay10, piece]

/-- Two concatenations of equal lists of pieces are equal. -/
theorem concat_congr {t : Shape} (a : Fin t.rank) {α : Type} {xs ys : List ((s : Shape) × (s.Idx → α))} (e : xs = ys)
    (h : Shape.Concatenates (xs.map (·.1)) t a) (h' : Shape.Concatenates (ys.map (·.1)) t a) : concatenate t a xs h = concatenate t a ys h' := by
  subst e; rfl

/-- The twenty slices are the twenty pieces. -/
theorem pieces_eq (x : Vec Ideal S128x5120 .bf16) (s : Vec Ideal S256x256 .bf16) :
    ([⟨S128x256, k0_pay11 x s⟩, ⟨S128x256, k0_pay12 x s⟩, ⟨S128x256, k0_pay13 x s⟩, ⟨S128x256, k0_pay14 x s⟩, ⟨S128x256, k0_pay15 x s⟩, ⟨S128x256, k0_pay16 x s⟩, ⟨S128x256, k0_pay17 x s⟩, ⟨S128x256, k0_pay18 x s⟩, ⟨S128x256, k0_pay19 x s⟩, ⟨S128x256, k0_pay20 x s⟩, ⟨S128x256, k0_pay21 x s⟩, ⟨S128x256, k0_pay22 x s⟩, ⟨S128x256, k0_pay23 x s⟩, ⟨S128x256, k0_pay24 x s⟩, ⟨S128x256, k0_pay25 x s⟩, ⟨S128x256, k0_pay26 x s⟩, ⟨S128x256, matmul (φ₁ := .bf16) (φ₂ := .bf16) dot_S128x256_S256x256_S128x256_1_0_0_1_n_n none (k0_pay27 x) s (constant (F := Ideal) S128x256 .f32 0x00000000#32)⟩, ⟨S128x256, k0_pay1 (k0_pay10 x) s⟩, ⟨S128x256, k0_pay2 (k0_pay10 x) s⟩, ⟨S128x256, k0_pay3 (k0_pay10 x) s⟩] : List ((s : Shape) × (s.Idx → EReal)))
      = List.ofFn fun g : Fin 20 => (⟨S128x256, piece x s g⟩ : (s : Shape) × (s.Idx → EReal)) := by
  rw [p0, p1, p2, p3, p4, p5, p6, p7, p8, p9, p10, p11, p12, p13, p14, p15, p16, p17, p18, p19]
  rfl

/-- The rotation of a chunk, entry by entry, as the wide product. -/
theorem rotC_apply (x : Vec Ideal S128x5120 .bf16) (s : Vec Ideal S256x256 .bf16) (r : Fin 128) (k : Fin 5120) :
    rotC x s (ix2 r k) = (∑ i : Fin 256, x (ix2 r ⟨256 * (k.val / 256) + i.val, by have := k.isLt; have := i.isLt; omega⟩)
      * s (ix2 i ⟨k.val % 256, by omega⟩)) * cRot := by
  have hk := k.isLt
  have h : Shape.Concatenates ((List.ofFn fun g : Fin 20 => (⟨S128x256, piece x s g⟩ : (s : Shape) × (s.Idx → EReal))).map (·.1)) S128x5120 1 :=
    concatenates_S128x256_S128x256_S128x256_S128x256_S128x256_S128x256_S128x256_S128x256_S128x256_S128x256_S128x256_S128x256_S128x256_S128x256_S128x256_S128x256_S128x256_S128x256_S128x256_S128x256_S128x5120_d1
  have e := concatenate_ofFn_apply (t := S128x5120) (s₁ := S128x256) 1 (fun g : Fin 20 => piece x s g) h
    rfl 256 rfl (ix2 r k) ⟨k.val / 256, by omega⟩ rfl (ix2 r ⟨k.val % 256, by omega⟩) rfl
    (fun b hb => by match b with | ⟨0, _⟩ => rfl | ⟨1, _⟩ => exact absurd rfl hb)
  have e2 := congrFun (concat_congr (t := S128x5120) 1 (pieces_eq x s)
    concatenates_S128x256_S128x256_S128x256_S128x256_S128x256_S128x256_S128x256_S128x256_S128x256_S128x256_S128x256_S128x256_S128x256_S128x256_S128x256_S128x256_S128x256_S128x256_S128x256_S128x256_S128x5120_d1 h) (ix2 r k)
  have e3 : rotC x s (ix2 r k) = concatenate S128x5120 1 [⟨S128x256, k0_pay11 x s⟩, ⟨S128x256, k0_pay12 x s⟩, ⟨S128x256, k0_pay13 x s⟩, ⟨S128x256, k0_pay14 x s⟩, ⟨S128x256, k0_pay15 x s⟩, ⟨S128x256, k0_pay16 x s⟩, ⟨S128x256, k0_pay17 x s⟩, ⟨S128x256, k0_pay18 x s⟩, ⟨S128x256, k0_pay19 x s⟩, ⟨S128x256, k0_pay20 x s⟩, ⟨S128x256, k0_pay21 x s⟩, ⟨S128x256, k0_pay22 x s⟩, ⟨S128x256, k0_pay23 x s⟩, ⟨S128x256, k0_pay24 x s⟩, ⟨S128x256, k0_pay25 x s⟩, ⟨S128x256, k0_pay26 x s⟩, ⟨S128x256, matmul (φ₁ := .bf16) (φ₂ := .bf16) dot_S128x256_S256x256_S128x256_1_0_0_1_n_n none (k0_pay27 x) s (constant (F := Ideal) S128x256 .f32 0x00000000#32)⟩, ⟨S128x256, k0_pay1 (k0_pay10 x) s⟩, ⟨S128x256, k0_pay2 (k0_pay10 x) s⟩, ⟨S128x256, k0_pay3 (k0_pay10 x) s⟩] concatenates_S128x256_S128x256_S128x256_S128x256_S128x256_S128x256_S128x256_S128x256_S128x256_S128x256_S128x256_S128x256_S128x256_S128x256_S128x256_S128x256_S128x256_S128x256_S128x256_S128x256_S128x5120_d1 (ix2 r k) * cRot := rfl
  exact e3.trans (congrArg (· * cRot) (e2.trans e))

/-- Row `r` of a chunk of activations. -/
def xrow (x : Vec Ideal S128x5120 .bf16) (r : Fin 128) : Row := fun k => x (ix2 r k)

/-- Under the block-diagonal Hadamard signs it is the rotation of the row. -/
theorem rotC_eq (x : Vec Ideal S128x5120 .bf16) (s : Vec Ideal S256x256 .bf16) (hs : ∀ i j : Fin 256, s (ix2 i j) = sgn2 i.val j.val)
    (r : Fin 128) (k : Fin 5120) : rotC x s (ix2 r k) = rot (xrow x r) k := by
  rw [rotC_apply, ← rot_eq_wide]
  simp only [hs]
  rfl

/-- The scale of a row of the chunk. -/
theorem scC_eq (x : Vec Ideal S128x5120 .bf16) (s : Vec Ideal S256x256 .bf16) (hs : ∀ i j : Fin 256, s (ix2 i j) = sgn2 i.val j.val)
    (r : Fin 128) (l : Fin 1) : scC x s (ix2 r l) = scale (rot (xrow x r)) := by
  unfold scC
  have h : ∀ k : Fin 5120, rotC x s (ix2 r k) = rot (xrow x r) k := rotC_eq x s hs r
  generalize rotC x s = v at h
  pointwise [k0_pay5]
  simp only [h]
  rfl

/-- An entry of the chunk, rounded and clipped. -/
theorem qC_eq (x : Vec Ideal S128x5120 .bf16) (s : Vec Ideal S256x256 .bf16) (hs : ∀ i j : Fin 256, s (ix2 i j) = sgn2 i.val j.val)
    (r : Fin 128) (k : Fin 5120) : qC x s (ix2 r k) = quant (rot (xrow x r)) k := by
  unfold qC
  have h : rotC x s (ix2 r k) = rot (xrow x r) k := rotC_eq x s hs r k
  have h' : scC x s (ix2 r 0) = scale (rot (xrow x r)) := scC_eq x s hs r 0
  generalize rotC x s = v at h
  generalize scC x s = w at h'
  pointwise [k0_pay6]
  rw [h, h']
  rfl

theorem pay7_eq (v : FVec Ideal S128x5120 .f32) (y : S128x5120.Idx) : k0_pay7 v y = Ideal.fptosi 8 (v y) := rfl

theorem pay8_eq (v : FVec Ideal S128x5120 .f32) (r : Fin 128) (k : Fin 5120) : k0_pay8 v (ix2 r k) = v (ix2 r k) := by
  pointwise [k0_pay8]

/-- One entry of a block of results: the row of codes against the row of weights, times the two scales, plus the bias. -/
theorem pay9_apply (x : Vec Ideal S512x5120 .bf16) (w : Vec Ideal S1024x5120 .i8) (s : Vec Ideal S512x1 .f32) (b c : Vec Ideal S1x1024 .f32)
    (r : Fin 512) (l : Fin 1024) : k0_pay9 x w s b c (ix2 r l)
      = (∑ k : Fin 5120, x (ix2 r k) * ((((w (ix2 l k) : BitVec 8).toInt : ℝ) : EReal))) * s (ix2 r 0) * b (ix2 0 l) + c (ix2 0 l) := by
  pointwise [k0_pay9]
  rfl

/-! ## A whole block of 512 rows -/

/-- Row `r` of a block of activations. -/
def brow (x : Vec Ideal S512x5120 .bf16) (r : Fin 512) : Row := fun k => x (ix2 r k)

theorem xrow_rowsOf (x : Vec Ideal S512x5120 .bf16) (r : Fin 512) : xrow (rowsOf x (chunk r)) (place r) = brow x r := by
  funext k
  have hr : (⟨128 * (r.val / 128) + r.val % 128, by have := r.isLt; omega⟩ : Fin 512) = r := Fin.ext (Nat.div_add_mod _ _)
  exact congrArg (fun q : Fin 512 => x (ix2 q k)) hr

theorem codesB_eq (x : Vec Ideal S512x5120 .bf16) (s : Vec Ideal S256x256 .bf16) (hs : ∀ i j : Fin 256, s (ix2 i j) = sgn2 i.val j.val)
    (r : Fin 512) (k : Fin 5120) : codesB x s (ix2 r k) = code (rot (brow x r)) k := by
  rw [← xrow_rowsOf]
  exact congrArg (Ideal.fptosi 8) (qC_eq (rowsOf x (chunk r)) s hs (place r) k)

theorem lhsB_eq (x : Vec Ideal S512x5120 .bf16) (s : Vec Ideal S256x256 .bf16) (hs : ∀ i j : Fin 256, s (ix2 i j) = sgn2 i.val j.val)
    (r : Fin 512) (k : Fin 5120) : lhsB x s (ix2 r k) = quant (rot (brow x r)) k := by
  rw [← xrow_rowsOf]
  exact (pay8_eq _ _ _).trans (qC_eq (rowsOf x (chunk r)) s hs (place r) k)

theorem scalesB_eq (x : Vec Ideal S512x5120 .bf16) (s : Vec Ideal S256x256 .bf16) (hs : ∀ i j : Fin 256, s (ix2 i j) = sgn2 i.val j.val)
    (r : Fin 512) (l : Fin 1) : scalesB x s (ix2 r l) = scale (rot (brow x r)) := by
  rw [← xrow_rowsOf]
  exact scC_eq (rowsOf x (chunk r)) s hs (place r) l

end Cert.KernelIdeal.KRows

end
-- ==== Proof.Signs.lean ====
/- The kernel's constant matrix, entry by entry: two copies of the 128 × 128 Hadamard matrix on the diagonal, zeros off it. -/
module

public import proofs.«01_k».proof.KernelIdeal
public import proofs.«01_k».proof.Proof.Rows
public import Idealize.ShloMosaic.Lib.IdealHost
public import Idealize.ShloMosaic.Lib.Tactic

@[expose] public section

set_option maxRecDepth 16384

noncomputable section

namespace Cert.KernelIdeal.Signs

open Cert.KernelIdeal Cert.Rows
open Idealize.ShloMosaic Idealize.ShloMosaic.Tactic

/-- The bits of the entry at row `i`, column `j`. -/
def bitsAt (i j : Nat) : BitVec 16 := if i / 128 = j / 128 then (if had 7 (i % 128) (j % 128) then 0x3F80#16 else 0xBF80#16) else 0x0000#16

/-- Half a row: 128 consecutive entries, `q` counting the halves. -/
def bitsRow (q n : Nat) : BitVec 16 := bitsAt (q / 2) (128 * (q % 2) + n)

/-- The value of a function at one of the first 128 numbers, by cases, as the stored table spells it. -/
def pick (a : Nat → BitVec 16) (n : Nat) : BitVec 16 := match n with
  | 0 => a 0
  | 1 => a 1
  | 2 => a 2
  | 3 => a 3
  | 4 => a 4
  | 5 => a 5
  | 6 => a 6
  | 7 => a 7
  | 8 => a 8
  | 9 => a 9
  | 10 => a 10
  | 11 => a 11
  | 12 => a 12
  | 13 => a 13
  | 14 => a 14
  | 15 => a 15
  | 16 => a 16
  | 17 => a 17
  | 18 => a 18
  | 19 => a 19
  | 20 => a 20
  | 21 => a 21
  | 22 => a 22
  | 23 => a 23
  | 24 => a 24
  | 25 => a 25
  | 26 => a 26
  | 27 => a 27
  | 28 => a 28
  | 29 => a 29
  | 30 => a 30
  | 31 => a 31
  | 32 => a 32
  | 33 => a 33
  | 34 => a 34
  | 35 => a 35
  | 36 => a 36
  | 37 => a 37
  | 38 => a 38
  | 39 => a 39
  | 40 => a 40
  | 41 => a 41
  | 42 => a 42
  | 43 => a 43
  | 44 => a 44
  | 45 => a 45
  | 46 => a 46
  | 47 => a 47
  | 48 => a 48
  | 49 => a 49
  | 50 => a 50
  | 51 => a 51
  | 52 => a 52
  | 53 => a 53
  | 54 => a 54
  | 55 => a 55
  | 56 => a 56
  | 57 => a 57
  | 58 => a 58
  | 59 => a 59
  | 60 => a 60
  | 61 => a 61
  | 62 => a 62
  | 63 => a 63
  | 64 => a 64
  | 65 => a 65
  | 66 => a 66
  | 67 => a 67
  | 68 => a 68
  | 69 => a 69
  | 70 => a 70
  | 71 => a 71
  | 72 => a 72
  | 73 => a 73
  | 74 => a 74
  | 75 => a 75
  | 76 => a 76
  | 77 => a 77
  | 78 => a 78
  | 79 => a 79
  | 80 => a 80
  | 81 => a 81
  | 82 => a 82
  | 83 => a 83
  | 84 => a 84
  | 85 => a 85
  | 86 => a 86
  | 87 => a 87
  | 88 => a 88
  | 89 => a 89
  | 90 => a 90
  | 91 => a 91
  | 92 => a 92
  | 93 => a 93
  | 94 => a 94
  | 95 => a 95
  | 96 => a 96
  | 97 => a 97
  | 98 => a 98
  | 99 => a 99
  | 100 => a 100
  | 101 => a 101
  | 102 => a 102
  | 103 => a 103
  | 104 => a 104
  | 105 => a 105
  | 106 => a 106
  | 107 => a 107
  | 108 => a 108
  | 109 => a 109
  | 110 => a 110
  | 111 => a 111
  | 112 => a 112
  | 113 => a 113
  | 114 => a 114
  | 115 => a 115
  | 116 => a 116
  | 117 => a 117
  | 118 => a 118
  | 119 => a 119
  | 120 => a 120
  | 121 => a 121
  | 122 => a 122
  | 123 => a 123
  | 124 => a 124
  | 125 => a 125
  | 126 => a 126
  | 127 => a 127
  | _ => 0x0000#16

theorem pick_eq (a : Nat → BitVec 16) : ∀ n : Fin 128, pick a n.val = a n.val := by
  intro n
  fin_cases n <;> rfl

/-- The stored table's shape with the entries computed. -/
def tab (i : Nat) : BitVec 16 := match i / 16384 with
  | 0 => pick (fun k => pick (fun n => bitsRow (0 + k) n) (i % 128)) (i / 128 % 128)
  | 1 => pick (fun k => pick (fun n => bitsRow (128 + k) n) (i % 128)) (i / 128 % 128)
  | 2 => pick (fun k => pick (fun n => bitsRow (256 + k) n) (i % 128)) (i / 128 % 128)
  | 3 => pick (fun k => pick (fun n => bitsRow (384 + k) n) (i % 128)) (i / 128 % 128)
  | _ => 0x0000#16

/-- The stored table is that, entry by entry (65536 of them, by computation). -/
theorem lit0t_eq : lit0t = tab := by sl_kernel_rfl

/-- The entry at row `i`, column `j`. -/
theorem table_eq (i j : Nat) (hi : i < 256) (hj : j < 256) : lit0t (256 * i + j) = bitsAt i j := by
  have h1 : (256 * i + j) / 128 % 128 = 2 * i % 128 + j / 128 := by omega
  have key : ∀ b : Nat, (256 * i + j) / 16384 = b →
      pick (fun k => pick (fun n => bitsRow (128 * b + k) n) ((256 * i + j) % 128)) ((256 * i + j) / 128 % 128) = bitsAt i j := by
    intro b hb
    rw [pick_eq _ ⟨(256 * i + j) / 128 % 128, by omega⟩, pick_eq _ ⟨(256 * i + j) % 128, by omega⟩]
    unfold bitsRow
    congr 1 <;> dsimp only <;> omega
  rw [lit0t_eq]
  unfold tab
  have hb : (256 * i + j) / 16384 < 4 := by omega
  generalize hq : (256 * i + j) / 16384 = b at hb
  match b, hb with
  | 0, _ => exact key 0 hq
  | 1, _ => exact key 1 hq
  | 2, _ => exact key 2 hq
  | 3, _ => exact key 3 hq

/-- As numbers: ones and minus ones on the two diagonal blocks, zeros elsewhere. -/
theorem bitsAt_eq (i j : Nat) : Ideal.ofBits .bf16 (bitsAt i j) = sgn2 i j := by
  unfold bitsAt sgn2 sgn
  split
  · split
    · exact Ideal.ofBits_one_bf16
    · rw [Ideal.ofBits_neg_one_bf16, EReal.coe_one]
  · exact Ideal.ofBits_zero_bf16

end Cert.KernelIdeal.Signs

end
-- ==== Proof.Spec.lean ====
/- The three results as functions of the arguments: the scales, the codes, and the product of the codes with the weights. -/
module

public import proofs.«01_k».proof.Proof.Rows

@[expose] public section

noncomputable section

namespace Cert.Rows

open Idealize.ShloMosaic

/-- Row `R` of the activations, the two leading axes counted together. -/
def xrow (x : FVec Ideal ⟨3, ![6, 1024, 5120]⟩ .bf16) (R : Fin 6144) : Row :=
  fun k => x (ix3 ⟨R.val / 1024, by have := R.isLt; omega⟩ ⟨R.val % 1024, Nat.mod_lt _ (by norm_num)⟩ k)

/-- The scale of every row. -/
def SCALES (x : FVec Ideal ⟨3, ![6, 1024, 5120]⟩ .bf16) : FVec Ideal ⟨2, ![6144, 1]⟩ .f32 :=
  fun i => scale (rot (xrow x (i 0)))

/-- The code of every entry. -/
def CODES (x : FVec Ideal ⟨3, ![6, 1024, 5120]⟩ .bf16) : IVec ⟨2, ![6144, 5120]⟩ 8 :=
  fun i => code (rot (xrow x (i 0))) (i 1)

/-- The dequantized product plus the bias. -/
def OUT (x : FVec Ideal ⟨3, ![6, 1024, 5120]⟩ .bf16) (w : IVec ⟨2, ![7168, 5120]⟩ 8) (s b : FVec Ideal ⟨1, ![7168]⟩ .f32) :
    FVec Ideal ⟨2, ![6144, 7168]⟩ .bf16 :=
  fun i => ((∑ k : Fin 5120, quant (rot (xrow x (i 0))) k * ((((w (ix2 (i 1) k) : BitVec 8).toInt : ℝ) : EReal)))
    * scale (rot (xrow x (i 0))) * s (ix1 (i 1)) + b (ix1 (i 1)) : EReal)

end Cert.Rows

end
-- ==== Proof.KValue.lean ====
/- The idealized kernel's three final arrays as functions of its arguments. -/
module

public import proofs.«01_k».proof.Proof.Run
public import proofs.«01_k».proof.Proof.KRows
public import proofs.«01_k».proof.Proof.Signs
public import proofs.«01_k».proof.Proof.Spec
public import Idealize.ShloMosaic.Lib.Pipeline.ValueKit.Geometry
public import Idealize.ShloMosaic.Lib.StableHlo.RunRead
public import Idealize.ShloMosaic.Lib.Tactic

@[expose] public section

set_option maxRecDepth 16384

noncomputable section

namespace Cert.KernelIdeal.KValue

open Cert.KernelIdeal Cert.KernelIdeal.Gen Cert.KernelIdeal.Body Cert.KernelIdeal.Signs
open Cert.Rows (Row had sgn sgn2 rot scale quant code SCALES CODES OUT)
open Cert.KernelIdeal.KRows (brow codesB_eq lhsB_eq scalesB_eq pay9_apply)
open Idealize.ShloMosaic Idealize.ShloMosaic.TcCoe Idealize.SL.Sem Idealize.ShloMosaic.Tactic Idealize.ShloMosaic.StableHlo
open Idealize.ShloMosaic.Pipeline (Dat)

variable (m : (ℓ : Loc nD τ sig) → Buf (Elt Ideal) ℓ) (c : Dev nD)

/-- An index of a matrix is a row and a column. -/
theorem eta {n k : Nat} (y : (⟨2, ![n, k]⟩ : Shape).Idx) : y = ix2 (y 0) (y 1) := by
  funext a; fin_cases a <;> rfl

/-! ## The arrays the region is entered with -/

/-- The sign matrix. -/
theorem V_cst (i j : Fin 256) : (V m c main_cst : FVec Ideal S256x256 .bf16) (ix2 i j) = sgn2 i.val j.val := by
  have h : (V m c main_cst : FVec Ideal S256x256 .bf16) = fun i => FloatOps.ofBits (F := Ideal) .bf16 (lit0 (S256x256.rowMajor i)) := by
    show after hostOps0 _ (Proc.devRef .tc main_cst) = _
    after_reads_simp
    try rfl
  rw [h]
  have hi : (S256x256.rowMajor (ix2 i j)).val = 256 * i.val + j.val := by
    rw [Shape.rowMajor_val_two]
    show i.val * 256 + j.val = _
    omega
  have hl : lit0 (S256x256.rowMajor (ix2 i j)) = bitsAt i.val j.val :=
    (congrArg lit0t hi).trans (table_eq i.val j.val i.isLt j.isLt)
  exact (congrArg (Ideal.ofBits .bf16) hl).trans (bitsAt_eq i.val j.val)

/-- The activations with the two leading axes joined. -/
theorem join_apply (x : FVec Ideal S6x1024x5120 .bf16) (R : Fin 6144) (k : Fin 5120) :
    shapeCast S6144x5120 x shapeCasts_S6x1024x5120_S6144x5120 (ix2 R k) = Cert.Rows.xrow x R k :=
  congrArg x (Shape.reshapeEquiv_eq_of_rowMajor (y := ix3 ⟨R.val / 1024, by have := R.isLt; omega⟩ ⟨R.val % 1024, Nat.mod_lt _ (by norm_num)⟩ k)
    shapeCasts_S6x1024x5120_S6144x5120 (by
      rw [Shape.rowMajor_val_three, Shape.rowMajor_val_two]
      show (R.val / 1024 * 1024 + R.val % 1024) * 5120 + k.val = R.val * 5120 + k.val
      omega))

theorem V_v0 (R : Fin 6144) (k : Fin 5120) : (V m c main_v0 : FVec Ideal S6144x5120 .bf16) (ix2 R k)
    = Cert.Rows.xrow (m ((c : Thread nD τ).loc main_arg0) : FVec Ideal S6x1024x5120 .bf16) R k := by
  have h : (V m c main_v0 : FVec Ideal S6144x5120 .bf16) = shapeCast S6144x5120 (m ((c : Thread nD τ).loc main_arg0) : FVec Ideal S6x1024x5120 .bf16) shapeCasts_S6x1024x5120_S6144x5120 := by
    show after hostOps0 _ (Proc.devRef .tc main_v0) = _
    after_reads_simp
    try rfl
  rw [h]
  exact join_apply _ R k

/-- A vector of 7168 entries as one row. -/
theorem asRow_apply (v : FVec Ideal S7168 .f32) (l : Fin 1) (n : Fin 7168) :
    shapeCast S1x7168 v shapeCasts_S7168_S1x7168 (ix2 l n) = v (ix1 n) :=
  congrArg v (Shape.reshapeEquiv_eq_of_rowMajor shapeCasts_S7168_S1x7168 (by
    rw [Shape.rowMajor_val_one, Shape.rowMajor_val_two]
    show n.val = l.val * 7168 + n.val
    have := l.isLt
    omega))

theorem V_v1 (l : Fin 1) (n : Fin 7168) : (V m c main_v1 : FVec Ideal S1x7168 .f32) (ix2 l n) = (m ((c : Thread nD τ).loc main_arg2) : FVec Ideal S7168 .f32) (ix1 n) := by
  have h : (V m c main_v1 : FVec Ideal S1x7168 .f32) = shapeCast S1x7168 (m ((c : Thread nD τ).loc main_arg2) : FVec Ideal S7168 .f32) shapeCasts_S7168_S1x7168 := by
    show after hostOps0 _ (Proc.devRef .tc main_v1) = _
    after_reads_simp
    try rfl
  rw [h]
  exact asRow_apply _ l n

theorem V_v2 (l : Fin 1) (n : Fin 7168) : (V m c main_v2 : FVec Ideal S1x7168 .f32) (ix2 l n) = (m ((c : Thread nD τ).loc main_arg3) : FVec Ideal S7168 .f32) (ix1 n) := by
  have h : (V m c main_v2 : FVec Ideal S1x7168 .f32) = shapeCast S1x7168 (m ((c : Thread nD τ).loc main_arg3) : FVec Ideal S7168 .f32) shapeCasts_S7168_S1x7168 := by
    show after hostOps0 _ (Proc.devRef .tc main_v2) = _
    after_reads_simp
    try rfl
  rw [h]
  exact asRow_apply _ l n

/-! ## Where the windows lie -/

theorem e0 : ∀ t : Fin cfg0.N, win0_0.index t = ![t.val / 7, 0] := (by decide +kernel : ∀ t : Fin grid0.N, win0_0.index t = ![t.val / 7, 0])
theorem e1 : ∀ t : Fin cfg0.N, win0_1.index t = ![0, 0] := (by decide +kernel : ∀ t : Fin grid0.N, win0_1.index t = ![0, 0])
theorem e2 : ∀ t : Fin cfg0.N, win0_2.index t = ![t.val % 7, 0] := (by decide +kernel : ∀ t : Fin grid0.N, win0_2.index t = ![t.val % 7, 0])
theorem e3 : ∀ t : Fin cfg0.N, win0_3.index t = ![0, t.val % 7] := (by decide +kernel : ∀ t : Fin grid0.N, win0_3.index t = ![0, t.val % 7])
theorem e4 : ∀ t : Fin cfg0.N, win0_4.index t = ![0, t.val % 7] := (by decide +kernel : ∀ t : Fin grid0.N, win0_4.index t = ![0, t.val % 7])
theorem e5 : ∀ t : Fin cfg0.N, win0_5.index t = ![t.val / 7, t.val % 7] := (by decide +kernel : ∀ t : Fin grid0.N, win0_5.index t = ![t.val / 7, t.val % 7])
theorem e6 : ∀ t : Fin cfg0.N, win0_6.index t = ![t.val / 7, 0] := (by decide +kernel : ∀ t : Fin grid0.N, win0_6.index t = ![t.val / 7, 0])
theorem e7 : ∀ t : Fin cfg0.N, win0_7.index t = ![t.val / 7, 0] := (by decide +kernel : ∀ t : Fin grid0.N, win0_7.index t = ![t.val / 7, 0])

/-! ## The blocks at coordinates -/

theorem read0 (t : Fin cfg0.N) (r : Fin 512) (R : Fin 6144) (h : R.val = t.val / 7 * 512 + r.val) :
    brow (iblk m c 0 t : FVec Ideal S512x5120 .bf16) r = Cert.Rows.xrow (m ((c : Thread nD τ).loc main_arg0) : FVec Ideal S6x1024x5120 .bf16) R := by
  funext k
  refine Eq.trans ?_ (V_v0 m c R k)
  show (iblk m c 0 t : FVec Ideal S512x5120 .bf16) (ix2 r k) = _
  blk_simp [iblk]
  exact congrArg (V m c main_v0) (by blk_ext [e0])

theorem read1 (t : Fin cfg0.N) (i j : Fin 256) : (iblk m c 1 t : FVec Ideal S256x256 .bf16) (ix2 i j) = sgn2 i.val j.val := by
  refine Eq.trans ?_ (V_cst m c i j)
  blk_simp [iblk]
  exact congrArg (V m c main_cst) (by blk_ext [e1])

theorem read2 (t : Fin cfg0.N) (l : Fin 1024) (n : Fin 7168) (k : Fin 5120) (h : n.val = t.val % 7 * 1024 + l.val) :
    (iblk m c 2 t : IVec S1024x5120 8) (ix2 l k) = (m ((c : Thread nD τ).loc main_arg1) : IVec S7168x5120 8) (ix2 n k) := by
  rw [← V_main_arg1 m c]
  blk_simp [iblk]
  exact congrArg (V m c main_arg1) (by blk_ext [e2])

theorem read3 (t : Fin cfg0.N) (l : Fin 1024) (n : Fin 7168) (h : n.val = t.val % 7 * 1024 + l.val) :
    (iblk m c 3 t : FVec Ideal S1x1024 .f32) (ix2 0 l) = (m ((c : Thread nD τ).loc main_arg2) : FVec Ideal S7168 .f32) (ix1 n) := by
  refine Eq.trans ?_ (V_v1 m c 0 n)
  blk_simp [iblk]
  exact congrArg (V m c main_v1) (by blk_ext [e3])

theorem read4 (t : Fin cfg0.N) (l : Fin 1024) (n : Fin 7168) (h : n.val = t.val % 7 * 1024 + l.val) :
    (iblk m c 4 t : FVec Ideal S1x1024 .f32) (ix2 0 l) = (m ((c : Thread nD τ).loc main_arg3) : FVec Ideal S7168 .f32) (ix1 n) := by
  refine Eq.trans ?_ (V_v2 m c 0 n)
  blk_simp [iblk]
  exact congrArg (V m c main_v2) (by blk_ext [e4])

/-! ## What a point leaves, at coordinates -/

theorem point5 (t : Fin cfg0.N) (r : Fin 512) (l : Fin 1024) (R : Fin 6144) (n : Fin 7168) (hR : R.val = t.val / 7 * 512 + r.val)
    (hn : n.val = t.val % 7 * 1024 + l.val) :
    k0_pay9 (lhsB (iblk m c 0 t) (iblk m c 1 t)) (iblk m c 2 t) (scalesB (iblk m c 0 t) (iblk m c 1 t)) (iblk m c 3 t) (iblk m c 4 t) (ix2 r l)
      = OUT (m ((c : Thread nD τ).loc main_arg0)) (m ((c : Thread nD τ).loc main_arg1)) (m ((c : Thread nD τ).loc main_arg2)) (m ((c : Thread nD τ).loc main_arg3)) (ix2 R n) := by
  refine (pay9_apply _ _ _ _ _ r l).trans ?_
  have h3 := read3 m c t l n hn
  have h4 := read4 m c t l n hn
  have hs := scalesB_eq (iblk m c 0 t) (iblk m c 1 t) (read1 m c t) r 0
  rw [read0 m c t r R hR] at hs
  refine congrArg₂ (fun a b : EReal => a + b) (congrArg₂ (fun a b : EReal => a * b) (congrArg₂ (fun a b : EReal => a * b)
    (Finset.sum_congr rfl fun k _ => congrArg₂ (fun a b : EReal => a * b) ?_ ?_) hs) h3) h4
  · have hl := lhsB_eq (iblk m c 0 t) (iblk m c 1 t) (read1 m c t) r k
    rw [read0 m c t r R hR] at hl
    exact hl
  · exact congrArg (fun z : BitVec 8 => ((z.toInt : ℝ) : EReal)) (read2 m c t l n k hn)

theorem point6 (t : Fin cfg0.N) (r : Fin 512) (k : Fin 5120) (R : Fin 6144) (hR : R.val = t.val / 7 * 512 + r.val) :
    codesB (iblk m c 0 t) (iblk m c 1 t) (ix2 r k) = CODES (m ((c : Thread nD τ).loc main_arg0)) (ix2 R k) := by
  have h := codesB_eq (iblk m c 0 t) (iblk m c 1 t) (read1 m c t) r k
  rw [read0 m c t r R hR] at h
  exact h

theorem point7 (t : Fin cfg0.N) (r : Fin 512) (l : Fin 1) (R : Fin 6144) (hR : R.val = t.val / 7 * 512 + r.val) :
    scalesB (iblk m c 0 t) (iblk m c 1 t) (ix2 r l) = SCALES (m ((c : Thread nD τ).loc main_arg0)) (ix2 R l) := by
  have h := scalesB_eq (iblk m c 0 t) (iblk m c 1 t) (read1 m c t) r l
  rw [read0 m c t r R hR] at h
  exact h

/-! ## The final arrays -/

theorem final5 : (dats m 0 c).arrAt 5 cfg0.N
    = OUT (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have hR : ((win0_5.blk t).view.emb y 0).val = t.val / 7 * 512 + (y 0).val := by blk_simp [e5]
  have hn : ((win0_5.blk t).view.emb y 1).val = t.val % 7 * 1024 + (y 1).val := by blk_simp [e5]
  have hz : ((win0_5.blk t).view.emb y : S6144x7168.Idx) = ix2 ((win0_5.blk t).view.emb y 0) ((win0_5.blk t).view.emb y 1) := eta _
  have hy : (y : S512x1024.Idx) = ix2 (y 0) (y 1) := eta y
  rw [hz]
  refine (congrArg _ hy).trans ?_
  exact point5 m c t (y 0) (y 1) _ _ hR hn

theorem final6 : (dats m 0 c).arrAt 6 cfg0.N = CODES (m ((c : Thread nD τ).loc main_arg0)) := by
  refine (dats m 0 c).arrAt_eq_of_covers 6 _ (by decide +kernel) fun t hf y => ?_
  blk_simp
  rw [after0_6]
  have hR : ((win0_6.blk t).view.emb y 0).val = t.val / 7 * 512 + (y 0).val := by blk_simp [e6]
  have hz : ((win0_6.blk t).view.emb y : S6144x5120.Idx) = ix2 ((win0_6.blk t).view.emb y 0) (y 1) := by
    refine (eta _).trans (congrArg (ix2 _) (Fin.ext ?_))
    blk_simp [e6]
  have hy : (y : S512x5120.Idx) = ix2 (y 0) (y 1) := eta y
  rw [hz]
  refine (congrArg _ hy).trans ?_
  exact point6 m c t (y 0) (y 1) _ hR

theorem final7 : (dats m 0 c).arrAt 7 cfg0.N = SCALES (m ((c : Thread nD τ).loc main_arg0)) := by
  refine (dats m 0 c).arrAt_eq_of_covers 7 _ (by decide +kernel) fun t hf y => ?_
  blk_simp
  rw [after0_7]
  have hR : ((win0_7.blk t).view.emb y 0).val = t.val / 7 * 512 + (y 0).val := by blk_simp [e7]
  have hz : ((win0_7.blk t).view.emb y : S6144x1.Idx) = ix2 ((win0_7.blk t).view.emb y 0) (y 1) := by
    refine (eta _).trans (congrArg (ix2 _) (Fin.ext ?_))
    blk_simp [e7]
  have hy : (y : S512x1.Idx) = ix2 (y 0) (y 1) := eta y
  rw [hz]
  refine (congrArg _ hy).trans ?_
  exact point7 m c t (y 0) (y 1) _ hR

end Cert.KernelIdeal.KValue

end
-- ==== Proof.RRows.lean ====
/- The reference's arithmetic, read entry by entry in the terms of `Rows`: the scales, the codes, and the integer product
   of the codes with the weights, which is exact and is the sum of reals the kernel forms. -/
module

public import proofs.«01_k».proof.Proof.Gen.ReferenceIdeal.Value
public import proofs.«01_k».proof.Proof.Rows
public import Idealize.ShloMosaic.Lib.Pointwise
public import Idealize.ShloMosaic.Lib.IntMxu

@[expose] public section

set_option maxRecDepth 16384

noncomputable section

namespace Cert.ReferenceIdeal.RRows

open Cert.ReferenceIdeal Cert.ReferenceIdeal.Gen Cert.Rows
open Idealize.ShloMosaic

/-- Row `r` of the rotated activations. -/
def vrow (x : Vec Ideal S6144x5120 .f32) (r : Fin 6144) : Row := fun k => x (ix2 r k)

/-- The greatest entry of each row of a matrix, of any size. -/
theorem rowMax {n0 n1 : Nat} (a : FVec Ideal ⟨2, ![n0, n1]⟩ .f32) (h : (⟨2, ![n0, n1]⟩ : Shape).Reduces [1] ⟨1, ![n0]⟩) (r : Fin n0) :
    multiReduction .maximumf [1] ⟨1, ![n0]⟩ a 0xFF800000#32 h (.inl rfl) rfl (ix1 r)
      = Finset.fold max (Ideal.ofBits .f32 0xFF800000#32) (fun k : Fin n1 => a (ix2 r k)) Finset.univ := by
  simp only [pointwise]

/-- A column made of a vector, of any length. -/
theorem column {n : Nat} (a : FVec Ideal ⟨1, ![n]⟩ .f32) (h : (⟨1, ![n]⟩ : Shape).ShapeCasts ⟨2, ![n, 1]⟩) (r : Fin n) (l : Fin 1) :
    shapeCast ⟨2, ![n, 1]⟩ a h (ix2 r l) = a (ix1 r) :=
  congrArg a (Shape.reshapeEquiv_eq_of_rowMajor h (by
    rw [Shape.rowMajor_val_one, Shape.rowMajor_val_two]
    show r.val = r.val * 1 + l.val
    have := l.isLt
    omega))

/-- The scale of each row, read off a column of greatest magnitudes of any length. -/
theorem pickScale {n : Nat} (u : FVec Ideal ⟨2, ![n, 1]⟩ .f32) (r : Fin n) (l : Fin 1) :
    select (cmpf .oeq u (broadcast ⟨2, ![n, 1]⟩ (Scalar.ofBits .f32 0x00000000#32 : Ideal .f32)))
        (broadcast ⟨2, ![n, 1]⟩ (Scalar.ofBits .f32 0x3F800000#32 : Ideal .f32))
        (mulf u (broadcast ⟨2, ![n, 1]⟩ (Scalar.ofBits .f32 0x3E124925#32 : Ideal .f32))) (ix2 r l)
      = if u (ix2 r l) = 0 then 1 else u (ix2 r l) * Ideal.ofBits .f32 0x3E124925#32 := by
  pointwise

theorem pay1_eq (x : Vec Ideal S6144x5120 .f32) : k0_pay1 x = x := shapeCast_self _ _

/-- The scale of a row. -/
theorem pay2_eq (x : Vec Ideal S6144x5120 .f32) (r : Fin 6144) (l : Fin 1) : k0_pay2 x (ix2 r l) = scale (vrow x r) := by
  have hM : (multiReduction .maximumf [1] S6144 (absf (k0_pay1 x)) 0xFF800000#32 reduces_S6144x5120_S6144 (.inl rfl) rfl : FVec Ideal S6144 .f32) (ix1 r)
      = amax (vrow x r) := by
    rw [pay1_eq]
    exact rowMax (absf x) reduces_S6144x5120_S6144 r
  unfold k0_pay2
  generalize (multiReduction .maximumf [1] S6144 (absf (k0_pay1 x)) 0xFF800000#32 reduces_S6144x5120_S6144 (.inl rfl) rfl : FVec Ideal S6144 .f32) = M at hM
  have hv := (column M shapeCasts_S6144_S6144x1 r l).trans hM
  generalize (shapeCast S6144x1 M shapeCasts_S6144_S6144x1 : FVec Ideal S6144x1 .f32) = u at hv
  exact (pickScale u r l).trans (by rw [hv]; rfl)

/-- The code of an entry, from the matrix and its column of scales, of any size. -/
theorem pickCode {n m : Nat} (x : FVec Ideal ⟨2, ![n, m]⟩ .f32) (s : FVec Ideal ⟨2, ![n, 1]⟩ .f32)
    (h : (⟨2, ![n, 1]⟩ : Shape).Broadcasts ⟨2, ![n, m]⟩) (r : Fin n) (k : Fin m) (hb : broadcastTo ⟨2, ![n, m]⟩ s h (ix2 r k) = s (ix2 r 0)) :
    fptosi 8 (minimumf (broadcast ⟨2, ![n, m]⟩ (Scalar.ofBits .f32 0x40E00000#32 : Ideal .f32))
        (maximumf (broadcast ⟨2, ![n, m]⟩ (Scalar.ofBits .f32 0xC0E00000#32 : Ideal .f32))
          (roundeven (divf x (broadcastTo ⟨2, ![n, m]⟩ s h))))) (ix2 r k)
      = Ideal.fptosi 8 (min (Ideal.ofBits .f32 0x40E00000#32) (max (Ideal.ofBits .f32 0xC0E00000#32)
          (Ideal.liftRound Ideal.roundHalfEven (Ideal.div (x (ix2 r k)) (s (ix2 r 0)))))) := by
  rw [← hb]
  rfl

theorem spread (s : FVec Ideal S6144x1 .f32) (r : Fin 6144) (k : Fin 5120) :
    broadcastTo S6144x5120 s broadcasts_S6144x1_S6144x5120 (ix2 r k) = s (ix2 r 0) := by
  pointwise

/-- The code of an entry. -/
theorem pay3_eq (x : Vec Ideal S6144x5120 .f32) (r : Fin 6144) (k : Fin 5120) : k0_pay3 x (ix2 r k) = code (vrow x r) k := by
  have h : k0_pay2 x (ix2 r 0) = scale (vrow x r) := pay2_eq x r 0
  unfold k0_pay3
  rw [pay1_eq]
  generalize k0_pay2 x = s at h
  refine (pickCode x s broadcasts_S6144x1_S6144x5120 r k (spread s r k)).trans ?_
  rw [h]
  rfl

/-! ## The integer product -/

/-- A sum of integer products, as extended reals. -/
theorem coe_sum {ι : Type} (s : Finset ι) (f g : ι → ℤ) :
    (((∑ i ∈ s, f i * g i : ℤ) : ℝ) : EReal) = ∑ i ∈ s, ((f i : ℝ) : EReal) * ((g i : ℝ) : EReal) := by
  classical
  induction s using Finset.induction_on with
  | empty => simp
  | insert a s ha ih =>
    rw [Finset.sum_insert ha, Finset.sum_insert ha, ← ih, ← EReal.coe_mul, ← EReal.coe_add]
    push_cast
    rfl

/-- The exact integer dot product of a row of codes and a row of weights is the sum of the products as reals. -/
theorem dot_eq (c : Vec Ideal S6144x5120 .i8) (w : Vec Ideal S7168x5120 .i8) (r : Fin 6144) (n : Fin 7168) :
    (((dotI8 dot_S6144x5120_S7168x5120_S6144x7168_1_1_0_0_n_n c w (ix2 r n) : ℤ) : ℝ) : EReal)
      = ∑ k : Fin 5120, ((((c (ix2 r k) : BitVec 8).toInt : ℝ) : EReal)) * ((((w (ix2 n k) : BitVec 8).toInt : ℝ) : EReal)) := by
  have key : ∀ (L : FVec Ideal S6144x5120 .f32) (R : FVec Ideal S7168x5120 .f32),
      (∑ k : dot_S6144x5120_S7168x5120_S6144x7168_1_1_0_0_n_n.contr.Idx,
        (L (dot_S6144x5120_S7168x5120_S6144x7168_1_1_0_0_n_n.lhsIdx (ix2 r n) k) : EReal) * R (dot_S6144x5120_S7168x5120_S6144x7168_1_1_0_0_n_n.rhsIdx (ix2 r n) k))
      = ∑ k : Fin 5120, (L (ix2 r k) : EReal) * R (ix2 n k) := fun L R => by
    have e : matmul dot_S6144x5120_S7168x5120_S6144x7168_1_1_0_0_n_n none L R (constant (F := Ideal) S6144x7168 .f32 0x00000000#32) (ix2 r n)
        = ∑ k : Fin 5120, (L (ix2 r k) : EReal) * R (ix2 n k) := by pointwise
    rw [← e]
    unfold matmul
    rw [Ideal.matmul_def]
    unfold Ideal.matmul
    rw [show (constant (F := Ideal) S6144x7168 .f32 0x00000000#32) (ix2 r n) = 0 from Ideal.ofBits_zero_f32, zero_add]
  unfold dotI8
  rw [coe_sum]
  exact key (fun i => (((c i : BitVec 8).toInt : ℝ) : EReal)) (fun i => (((w i : BitVec 8).toInt : ℝ) : EReal))

/-- Where every code is at most 7 in magnitude the products' magnitudes total below the bound of exactness. -/
theorem abs_le (c : Vec Ideal S6144x5120 .i8) (w : Vec Ideal S7168x5120 .i8) (j : S6144x7168.Idx)
    (hc : ∀ i, (c i : BitVec 8).toInt.natAbs ≤ 7) : absDotI8 dot_S6144x5120_S7168x5120_S6144x7168_1_1_0_0_n_n c w j ≤ IntMxuNumerics.v7x.exactUpTo := by
  unfold absDotI8
  refine le_trans (Finset.sum_le_card_nsmul Finset.univ _ (7 * 128) fun k _ => ?_) ?_
  · rw [Int.natAbs_mul]
    exact Nat.mul_le_mul (hc _) (natAbs_toInt_i8_le _)
  · rw [Finset.card_univ, Shape.card_idx]
    have : dot_S6144x5120_S7168x5120_S6144x7168_1_1_0_0_n_n.contr.numel = 5120 := by decide +kernel
    rw [this]
    decide +kernel

/-- One entry of the result from the integer product, the column of scales and the two rows, of any size. -/
theorem pickOut {n m : Nat} (M : IVec ⟨2, ![n, m]⟩ 32) (s b c : FVec Ideal ⟨2, ![n, m]⟩ .f32) (y : (⟨2, ![n, m]⟩ : Shape).Idx)
    (ht : FTy.bf16.bits < FTy.f32.bits) :
    truncf .bf16 (addf (mulf (mulf (sitofp .f32 M) s) b) c) ht y
      = (((((M y).toInt : ℤ) : ℝ) : EReal) * s y * b y + c y : EReal) := rfl

theorem spreadCol (s : FVec Ideal S6144x1 .f32) (r : Fin 6144) (k : Fin 7168) :
    broadcastTo S6144x7168 s broadcasts_S6144x1_S6144x7168 (ix2 r k) = s (ix2 r 0) := by
  pointwise

theorem spreadRow (s : FVec Ideal S1x7168 .f32) (r : Fin 6144) (k : Fin 7168) :
    broadcastTo S6144x7168 (shapeCast S1x7168 s shapeCasts_S1x7168_S1x7168) broadcasts_S1x7168_S6144x7168 (ix2 r k) = s (ix2 0 k) := by
  rw [shapeCast_self]
  pointwise

/-- The integer product's entry is the sum of reals. -/
theorem product_eq (x : Vec Ideal S6144x5120 .f32) (w : Vec Ideal S7168x5120 .i8) (r : Fin 6144) (n : Fin 7168) :
    ((((matmulI8 IntMxuNumerics.v7x dot_S6144x5120_S7168x5120_S6144x7168_1_1_0_0_n_n (k0_pay3 x) w (constantI S6144x7168 32 0#32) (ix2 r n)).toInt : ℤ) : ℝ) : EReal)
      = ∑ k : Fin 5120, quant (vrow x r) k * ((((w (ix2 n k) : BitVec 8).toInt : ℝ) : EReal)) := by
  have hq : ∀ (r : Fin 6144) (k : Fin 5120), k0_pay3 x (ix2 r k) = code (vrow x r) k := pay3_eq x
  generalize (k0_pay3 x : IVec S6144x5120 8) = q at hq
  have hm : (matmulI8 IntMxuNumerics.v7x dot_S6144x5120_S7168x5120_S6144x7168_1_1_0_0_n_n q w (constantI S6144x7168 32 0#32) (ix2 r n)).toInt
      = dotI8 dot_S6144x5120_S7168x5120_S6144x7168_1_1_0_0_n_n q w (ix2 r n) :=
    matmulI8_toInt _ _ _ _ _ _ rfl (abs_le _ _ _ fun i => by
      rw [eq_ix2 i]
      exact (congrArg (fun z : BitVec 8 => z.toInt.natAbs ≤ 7) (hq (i 0) (i 1))).mpr (code_spec _ _).1)
  rw [hm]
  refine (dot_eq q w r n).trans (Finset.sum_congr rfl fun k _ => ?_)
  rw [hq, (code_spec _ _).2]

/-- One entry of the result: the row of codes against the row of weights, times the two scales, plus the bias. -/
theorem pay4_apply (x : Vec Ideal S6144x5120 .f32) (w : Vec Ideal S7168x5120 .i8) (b c : Vec Ideal S1x7168 .f32) (r : Fin 6144) (n : Fin 7168) :
    k0_pay4 x w b c (ix2 r n)
      = (∑ k : Fin 5120, quant (vrow x r) k * ((((w (ix2 n k) : BitVec 8).toInt : ℝ) : EReal))) * scale (vrow x r) * b (ix2 0 n) + c (ix2 0 n) := by
  have hs : k0_pay2 x (ix2 r 0) = scale (vrow x r) := pay2_eq x r 0
  have hd := product_eq x w r n
  unfold k0_pay4
  generalize matmulI8 IntMxuNumerics.v7x dot_S6144x5120_S7168x5120_S6144x7168_1_1_0_0_n_n (k0_pay3 x) w (constantI S6144x7168 32 0#32) = M at hd
  generalize k0_pay2 x = s at hs
  refine (pickOut M (broadcastTo S6144x7168 s broadcasts_S6144x1_S6144x7168)
    (broadcastTo S6144x7168 (shapeCast S1x7168 b shapeCasts_S1x7168_S1x7168) broadcasts_S1x7168_S6144x7168)
    (broadcastTo S6144x7168 (shapeCast S1x7168 c shapeCasts_S1x7168_S1x7168) broadcasts_S1x7168_S6144x7168) (ix2 r n) bitsLt_bf16_f32).trans ?_
  rw [spreadCol, spreadRow, spreadRow, hs, hd]

end Cert.ReferenceIdeal.RRows

end
-- ==== Proof.RHad.lean ====
/- One doubling step of the Hadamard matrix as the reference builds it: two matrices side by side, twice, one above the other. -/
module

public import proofs.«01_k».proof.Proof.Rows
public import Idealize.ShloMosaic.Lib.Pipeline.Value
public import Idealize.ShloMosaic.Lib.IdealHost

@[expose] public section

noncomputable section

namespace Cert.RHad

open Cert.Rows
open Idealize.ShloMosaic

/-- A square shape, and a rectangle. -/
abbrev Rect2 (n m : Nat) : Shape := ⟨2, ![n, m]⟩

/-- Two matrices side by side, at an index. -/
theorem beside {n m : Nat} (hm : m = n + n) (H G : FVec Ideal (Rect2 n n) .f32)
    (h : Shape.Concatenates [Rect2 n n, Rect2 n n] (Rect2 n m) 1) (i : Fin n) (j : Fin m) :
    concatenate (Rect2 n m) 1 [⟨Rect2 n n, H⟩, ⟨Rect2 n n, G⟩] h (ix2 i j)
      = if hj : j.val < n then H (ix2 i ⟨j.val, hj⟩) else G (ix2 i ⟨j.val - n, by have := j.isLt; omega⟩) := by
  split
  · next hj =>
    refine concatenate_pair_apply_left 1 H G h (ix2 i j) rfl _ fun b => ?_
    match b with
    | ⟨0, _⟩ => rfl
    | ⟨1, _⟩ => rfl
  · next hj =>
    refine concatenate_pair_apply_right 1 H G h (ix2 i j) rfl rfl _ (fun b hb => ?_) ?_
    · match b with
      | ⟨0, _⟩ => rfl
      | ⟨1, _⟩ => exact absurd rfl hb
    · show j.val - n + n = j.val
      omega

/-- Two matrices one above the other, at an index. -/
theorem above {n m : Nat} (hm : m = n + n) (A B : FVec Ideal (Rect2 n m) .f32)
    (h : Shape.Concatenates [Rect2 n m, Rect2 n m] (Rect2 m m) 0) (i j : Fin m) :
    concatenate (Rect2 m m) 0 [⟨Rect2 n m, A⟩, ⟨Rect2 n m, B⟩] h (ix2 i j)
      = if hi : i.val < n then A (ix2 ⟨i.val, hi⟩ j) else B (ix2 ⟨i.val - n, by have := i.isLt; omega⟩ j) := by
  split
  · next hi =>
    refine concatenate_pair_apply_left 0 A B h (ix2 i j) rfl _ fun b => ?_
    match b with
    | ⟨0, _⟩ => rfl
    | ⟨1, _⟩ => rfl
  · next hi =>
    refine concatenate_pair_apply_right 0 A B h (ix2 i j) rfl rfl _ (fun b hb => ?_) ?_
    · match b with
      | ⟨0, _⟩ => exact absurd rfl hb
      | ⟨1, _⟩ => rfl
    · show i.val - n + n = i.val
      omega

/-- If `H` holds the signs of level `k` and `G` their negatives, the four blocks hold the signs of level `k + 1`. -/
theorem had_step {n m : Nat} (k : Nat) (hn : n = 2 ^ k) (hm : m = n + n) (H G : FVec Ideal (Rect2 n n) .f32)
    (hH : ∀ i j : Fin n, H (ix2 i j) = sgn (had k i.val j.val)) (hG : ∀ i j : Fin n, G (ix2 i j) = -sgn (had k i.val j.val))
    (h1 h1' : Shape.Concatenates [Rect2 n n, Rect2 n n] (Rect2 n m) 1) (h0 : Shape.Concatenates [Rect2 n m, Rect2 n m] (Rect2 m m) 0) (i j : Fin m) :
    concatenate (Rect2 m m) 0 [⟨Rect2 n m, concatenate (Rect2 n m) 1 [⟨Rect2 n n, H⟩, ⟨Rect2 n n, H⟩] h1⟩,
        ⟨Rect2 n m, concatenate (Rect2 n m) 1 [⟨Rect2 n n, H⟩, ⟨Rect2 n n, G⟩] h1'⟩] h0 (ix2 i j)
      = sgn (had (k + 1) i.val j.val) := by
  rw [above hm, had]
  subst hn
  split <;> rw [beside hm] <;> split
  · rw [hH]
  · rw [hH]
  · rw [hH]
  · rw [hG, sgn_not]

end Cert.RHad

end
-- ==== Proof.RHost.lean ====
/- What the reference's host operations leave for its kernel: the Hadamard signs, the rotated activations as 6144 rows, and the
   two rows of weight scales and biases. -/
module

public import proofs.«01_k».proof.Proof.Gen.ReferenceIdeal.Value
public import proofs.«01_k».proof.Proof.RHad
public import Idealize.ShloMosaic.Lib.StableHlo.RunRead
public import Idealize.ShloMosaic.Lib.Pointwise

@[expose] public section

set_option maxRecDepth 16384

noncomputable section

namespace Cert.ReferenceIdeal.RHost

open Cert.ReferenceIdeal Cert.ReferenceIdeal.Gen Cert.Rows Cert.RHad
open Idealize.ShloMosaic Idealize.ShloMosaic.StableHlo

/-- Contents of every buffer. -/
abbrev Vl := Valuation τ sig (Elt Ideal)

/-! ## The doubling steps -/

theorem start_v0 (W : Vl) (i j : Fin 1) : (after hostOps0 W (Proc.devRef .tc main_v0) : FVec Ideal S1x1 .f32) (ix2 i j) = (1 : EReal) := by
  have h : (after hostOps0 W (Proc.devRef .tc main_v0) : FVec Ideal S1x1 .f32) = (broadcastInDim S1x1 ![] bcast_S_S1x1 (constant (F := Ideal) S_ .f32 0x3F800000#32) : FVec Ideal S1x1 .f32) := by
    after_reads_simp
  rw [h]
  exact Ideal.ofBits_one_f32

theorem start_v1 (W : Vl) : (after hostOps0 W (Proc.devRef .tc main_v1) : FVec Ideal S1x1 .f32) = Host.negf (F := Ideal) (s := S1x1) (φ := .f32) (after hostOps0 W (Proc.devRef .tc main_v0) : FVec Ideal S1x1 .f32) := by
  after_reads_simp

theorem step_v2 (W : Vl) : (after hostOps0_1 W (Proc.devRef .tc main_v2) : FVec Ideal S2x2 .f32)
    = concatenate S2x2 0 [⟨S1x2, concatenate S1x2 1 [⟨S1x1, W (Proc.devRef .tc main_v0)⟩, ⟨S1x1, W (Proc.devRef .tc main_v0)⟩] concatenates_S1x1_S1x1_S1x2_d1⟩,
        ⟨S1x2, concatenate S1x2 1 [⟨S1x1, W (Proc.devRef .tc main_v0)⟩, ⟨S1x1, W (Proc.devRef .tc main_v1)⟩] concatenates_S1x1_S1x1_S1x2_d1⟩] concatenates_S1x2_S1x2_S2x2_d0 := by
  after_reads_simp
  rfl

theorem step_v4 (W : Vl) : (after hostOps0_3 (after hostOps0_2 W) (Proc.devRef .tc main_v4) : FVec Ideal S4x4 .f32)
    = concatenate S4x4 0 [⟨S2x4, concatenate S2x4 1 [⟨S2x2, W (Proc.devRef .tc main_v2)⟩, ⟨S2x2, W (Proc.devRef .tc main_v2)⟩] concatenates_S2x2_S2x2_S2x4_d1⟩,
        ⟨S2x4, concatenate S2x4 1 [⟨S2x2, W (Proc.devRef .tc main_v2)⟩, ⟨S2x2, Host.negf (F := Ideal) (s := S2x2) (φ := .f32) (W (Proc.devRef .tc main_v2))⟩] concatenates_S2x2_S2x2_S2x4_d1⟩] concatenates_S2x4_S2x4_S4x4_d0 := by
  after_reads_simp
  rfl

theorem step_v6 (W : Vl) : (after hostOps0_5 (after hostOps0_4 W) (Proc.devRef .tc main_v6) : FVec Ideal S8x8 .f32)
    = concatenate S8x8 0 [⟨S4x8, concatenate S4x8 1 [⟨S4x4, W (Proc.devRef .tc main_v4)⟩, ⟨S4x4, W (Proc.devRef .tc main_v4)⟩] concatenates_S4x4_S4x4_S4x8_d1⟩,
        ⟨S4x8, concatenate S4x8 1 [⟨S4x4, W (Proc.devRef .tc main_v4)⟩, ⟨S4x4, Host.negf (F := Ideal) (s := S4x4) (φ := .f32) (W (Proc.devRef .tc main_v4))⟩] concatenates_S4x4_S4x4_S4x8_d1⟩] concatenates_S4x8_S4x8_S8x8_d0 := by
  after_reads_simp
  rfl

theorem step_v8 (W : Vl) : (after hostOps0_7 (after hostOps0_6 W) (Proc.devRef .tc main_v8) : FVec Ideal S16x16 .f32)
    = concatenate S16x16 0 [⟨S8x16, concatenate S8x16 1 [⟨S8x8, W (Proc.devRef .tc main_v6)⟩, ⟨S8x8, W (Proc.devRef .tc main_v6)⟩] concatenates_S8x8_S8x8_S8x16_d1⟩,
        ⟨S8x16, concatenate S8x16 1 [⟨S8x8, W (Proc.devRef .tc main_v6)⟩, ⟨S8x8, Host.negf (F := Ideal) (s := S8x8) (φ := .f32) (W (Proc.devRef .tc main_v6))⟩] concatenates_S8x8_S8x8_S8x16_d1⟩] concatenates_S8x16_S8x16_S16x16_d0 := by
  after_reads_simp
  rfl

theorem step_v10 (W : Vl) : (after hostOps0_9 (after hostOps0_8 W) (Proc.devRef .tc main_v10) : FVec Ideal S32x32 .f32)
    = concatenate S32x32 0 [⟨S16x32, concatenate S16x32 1 [⟨S16x16, W (Proc.devRef .tc main_v8)⟩, ⟨S16x16, W (Proc.devRef .tc main_v8)⟩] concatenates_S16x16_S16x16_S16x32_d1⟩,
        ⟨S16x32, concatenate S16x32 1 [⟨S16x16, W (Proc.devRef .tc main_v8)⟩, ⟨S16x16, Host.negf (F := Ideal) (s := S16x16) (φ := .f32) (W (Proc.devRef .tc main_v8))⟩] concatenates_S16x16_S16x16_S16x32_d1⟩] concatenates_S16x32_S16x32_S32x32_d0 := by
  after_reads_simp
  rfl

theorem step_v12 (W : Vl) : (after hostOps0_11 (after hostOps0_10 W) (Proc.devRef .tc main_v12) : FVec Ideal S64x64 .f32)
    = concatenate S64x64 0 [⟨S32x64, concatenate S32x64 1 [⟨S32x32, W (Proc.devRef .tc main_v10)⟩, ⟨S32x32, W (Proc.devRef .tc main_v10)⟩] concatenates_S32x32_S32x32_S32x64_d1⟩,
        ⟨S32x64, concatenate S32x64 1 [⟨S32x32, W (Proc.devRef .tc main_v10)⟩, ⟨S32x32, Host.negf (F := Ideal) (s := S32x32) (φ := .f32) (W (Proc.devRef .tc main_v10))⟩] concatenates_S32x32_S32x32_S32x64_d1⟩] concatenates_S32x64_S32x64_S64x64_d0 := by
  after_reads_simp
  rfl

theorem step_v14 (W : Vl) : (after hostOps0_13 (after hostOps0_12 W) (Proc.devRef .tc main_v14) : FVec Ideal S128x128 .f32)
    = concatenate S128x128 0 [⟨S64x128, concatenate S64x128 1 [⟨S64x64, W (Proc.devRef .tc main_v12)⟩, ⟨S64x64, W (Proc.devRef .tc main_v12)⟩] concatenates_S64x64_S64x64_S64x128_d1⟩,
        ⟨S64x128, concatenate S64x128 1 [⟨S64x64, W (Proc.devRef .tc main_v12)⟩, ⟨S64x64, Host.negf (F := Ideal) (s := S64x64) (φ := .f32) (W (Proc.devRef .tc main_v12))⟩] concatenates_S64x64_S64x64_S64x128_d1⟩] concatenates_S64x128_S64x128_S128x128_d0 := by
  after_reads_simp
  rfl

/-! ## The contents after each stretch -/

/-- The contents after the first matrix is doubled `k` times. -/
def lvl1 (W : Vl) : Vl := after hostOps0_1 (after hostOps0 W)
def lvl2 (W : Vl) : Vl := after hostOps0_3 (after hostOps0_2 (lvl1 W))
def lvl3 (W : Vl) : Vl := after hostOps0_5 (after hostOps0_4 (lvl2 W))
def lvl4 (W : Vl) : Vl := after hostOps0_7 (after hostOps0_6 (lvl3 W))
def lvl5 (W : Vl) : Vl := after hostOps0_9 (after hostOps0_8 (lvl4 W))
def lvl6 (W : Vl) : Vl := after hostOps0_11 (after hostOps0_10 (lvl5 W))
def lvl7 (W : Vl) : Vl := after hostOps0_13 (after hostOps0_12 (lvl6 W))

theorem had1 (W : Vl) (i j : Fin 2) : (lvl1 W (Proc.devRef .tc main_v2) : FVec Ideal S2x2 .f32) (ix2 i j) = sgn (had 1 i.val j.val) := by
  unfold lvl1
  rw [step_v2]
  refine had_step (n := 1) (m := 2) 0 rfl rfl _ _ (fun i j => ?_) (fun i j => ?_) _ _ _ i j
  · exact start_v0 W i j
  · rw [start_v1]
    exact congrArg (fun z : EReal => -z) (start_v0 W i j)

theorem had2 (W : Vl) (i j : Fin 4) : (lvl2 W (Proc.devRef .tc main_v4) : FVec Ideal S4x4 .f32) (ix2 i j) = sgn (had 2 i.val j.val) := by
  unfold lvl2
  rw [step_v4]
  exact had_step (n := 2) (m := 4) 1 rfl rfl _ _ (had1 W) (fun i j => congrArg (fun z : EReal => -z) (had1 W i j)) _ _ _ i j

theorem had3 (W : Vl) (i j : Fin 8) : (lvl3 W (Proc.devRef .tc main_v6) : FVec Ideal S8x8 .f32) (ix2 i j) = sgn (had 3 i.val j.val) := by
  unfold lvl3
  rw [step_v6]
  exact had_step (n := 4) (m := 8) 2 rfl rfl _ _ (had2 W) (fun i j => congrArg (fun z : EReal => -z) (had2 W i j)) _ _ _ i j

theorem had4 (W : Vl) (i j : Fin 16) : (lvl4 W (Proc.devRef .tc main_v8) : FVec Ideal S16x16 .f32) (ix2 i j) = sgn (had 4 i.val j.val) := by
  unfold lvl4
  rw [step_v8]
  exact had_step (n := 8) (m := 16) 3 rfl rfl _ _ (had3 W) (fun i j => congrArg (fun z : EReal => -z) (had3 W i j)) _ _ _ i j

theorem had5 (W : Vl) (i j : Fin 32) : (lvl5 W (Proc.devRef .tc main_v10) : FVec Ideal S32x32 .f32) (ix2 i j) = sgn (had 5 i.val j.val) := by
  unfold lvl5
  rw [step_v10]
  exact had_step (n := 16) (m := 32) 4 rfl rfl _ _ (had4 W) (fun i j => congrArg (fun z : EReal => -z) (had4 W i j)) _ _ _ i j

theorem had6 (W : Vl) (i j : Fin 64) : (lvl6 W (Proc.devRef .tc main_v12) : FVec Ideal S64x64 .f32) (ix2 i j) = sgn (had 6 i.val j.val) := by
  unfold lvl6
  rw [step_v12]
  exact had_step (n := 32) (m := 64) 5 rfl rfl _ _ (had5 W) (fun i j => congrArg (fun z : EReal => -z) (had5 W i j)) _ _ _ i j

theorem had7 (W : Vl) (i j : Fin 128) : (lvl7 W (Proc.devRef .tc main_v14) : FVec Ideal S128x128 .f32) (ix2 i j) = sgn (had 7 i.val j.val) := by
  unfold lvl7
  rw [step_v14]
  exact had_step (n := 64) (m := 128) 6 rfl rfl _ _ (had6 W) (fun i j => congrArg (fun z : EReal => -z) (had6 W i j)) _ _ _ i j

theorem keep0 (W : Vl) : lvl7 W (Proc.devRef .tc main_arg0) = W (Proc.devRef .tc main_arg0) := by
  unfold lvl7 lvl6 lvl5 lvl4 lvl3 lvl2 lvl1
  after_reads_simp

theorem keep1 (W : Vl) : lvl7 W (Proc.devRef .tc main_arg1) = W (Proc.devRef .tc main_arg1) := by
  unfold lvl7 lvl6 lvl5 lvl4 lvl3 lvl2 lvl1
  after_reads_simp

theorem keep2 (W : Vl) : lvl7 W (Proc.devRef .tc main_arg2) = W (Proc.devRef .tc main_arg2) := by
  unfold lvl7 lvl6 lvl5 lvl4 lvl3 lvl2 lvl1
  after_reads_simp

theorem keep3 (W : Vl) : lvl7 W (Proc.devRef .tc main_arg3) = W (Proc.devRef .tc main_arg3) := by
  unfold lvl7 lvl6 lvl5 lvl4 lvl3 lvl2 lvl1
  after_reads_simp

end Cert.ReferenceIdeal.RHost

end
-- ==== Proof.RHost2.lean ====
/- The reference's host results in plain terms: the kernel's first operand holds the rotated rows of the activations, its third and
   fourth the weight scales and the biases as rows. -/
module

public import proofs.«01_k».proof.Proof.RHost
public import proofs.«01_k».proof.Proof.Spec
public import Idealize.ShloMosaic.Lib.Pipeline.Frame
public import Idealize.ShloMosaic.Lib.ValueLayout

@[expose] public section

set_option maxRecDepth 16384

noncomputable section

namespace Cert.ReferenceIdeal.RHost

open Cert.ReferenceIdeal Cert.ReferenceIdeal.Gen Cert.Rows Cert.RHad
open Idealize.ShloMosaic Idealize.ShloMosaic.StableHlo Idealize.ShloMosaic.TcCoe

/-! ## The last stretch -/

theorem last_v21 (W : Vl) : (after hostOps0_14 W (Proc.devRef .tc main_v21) : FVec Ideal S6144x5120 .f32)
    = shapeCast S6144x5120 (shapeCast S6x1024x5120 (Host.dotGeneral (F := Ideal) dot_S6x1024x40x128_S128x128_S6x1024x40x128_3_0_012_1_n_n none
        (shapeCast S6x1024x40x128 (extf (F := Ideal) (φ := .bf16) .f32 (W (Proc.devRef .tc main_arg0)) bitsLt_bf16_f32) shapeCasts_S6x1024x5120_S6x1024x40x128)
        (mulf (F := Ideal) (s := S128x128) (φ := .f32) (W (Proc.devRef .tc main_v14)) (broadcastInDim S128x128 ![] bcast_S_S128x128 (constant (F := Ideal) S_ .f32 0x3DB504F3#32)))) shapeCasts_S6x1024x40x128_S6x1024x5120)
      shapeCasts_S6x1024x5120_S6144x5120 := by
  after_reads_simp
  rfl

theorem last_v22 (W : Vl) : (after hostOps0_14 W (Proc.devRef .tc main_v22) : FVec Ideal S1x7168 .f32)
    = shapeCast S1x7168 (W (Proc.devRef .tc main_arg2) : FVec Ideal S7168 .f32) shapeCasts_S7168_S1x7168 := by
  after_reads_simp
  rfl

theorem last_v23 (W : Vl) : (after hostOps0_14 W (Proc.devRef .tc main_v23) : FVec Ideal S1x7168 .f32)
    = shapeCast S1x7168 (W (Proc.devRef .tc main_arg3) : FVec Ideal S7168 .f32) shapeCasts_S7168_S1x7168 := by
  after_reads_simp
  rfl

theorem last_arg1 (W : Vl) : after hostOps0_14 W (Proc.devRef .tc main_arg1) = W (Proc.devRef .tc main_arg1) := by
  after_reads_simp

/-! ## At an index -/

/-- The host's contraction at an index. -/
theorem dot_apply (L : FVec Ideal S6x1024x40x128 .f32) (M : FVec Ideal S128x128 .f32) (a : Fin 6) (b : Fin 1024) (c : Fin 40) (d : Fin 128) :
    Host.dotGeneral (F := Ideal) dot_S6x1024x40x128_S128x128_S6x1024x40x128_3_0_012_1_n_n none L M (ix4 a b c d)
      = ∑ i : Fin 128, (L (ix4 a b c i) : EReal) * M (ix2 i d) := by
  pointwise

/-- The activations cut into blocks of 128. -/
theorem cut_apply (x : FVec Ideal S6x1024x5120 .f32) (a : Fin 6) (b : Fin 1024) (c : Fin 40) (i : Fin 128) :
    shapeCast S6x1024x40x128 x shapeCasts_S6x1024x5120_S6x1024x40x128 (ix4 a b c i)
      = x (ix3 a b ⟨128 * c.val + i.val, by have := c.isLt; have := i.isLt; omega⟩) :=
  congrArg x (Shape.reshapeEquiv_eq_of_rowMajor shapeCasts_S6x1024x5120_S6x1024x40x128 (by
    rw [Shape.rowMajor_val_three, Shape.rowMajor_val_four]
    show (a.val * 1024 + b.val) * 5120 + (128 * c.val + i.val) = ((a.val * 1024 + b.val) * 40 + c.val) * 128 + i.val
    ring))

/-- The blocks joined again and the rows counted together. -/
theorem join_apply (y : FVec Ideal S6x1024x40x128 .f32) (R : Fin 6144) (k : Fin 5120) :
    shapeCast S6144x5120 (shapeCast S6x1024x5120 y shapeCasts_S6x1024x40x128_S6x1024x5120) shapeCasts_S6x1024x5120_S6144x5120 (ix2 R k)
      = y (ix4 ⟨R.val / 1024, by have := R.isLt; omega⟩ ⟨R.val % 1024, Nat.mod_lt _ (by norm_num)⟩
          ⟨k.val / 128, by have := k.isLt; omega⟩ ⟨k.val % 128, Nat.mod_lt _ (by norm_num)⟩) := by
  have h1 : Shape.reshapeEquiv shapeCasts_S6x1024x5120_S6144x5120 (ix2 R k)
      = ix3 ⟨R.val / 1024, by have := R.isLt; omega⟩ ⟨R.val % 1024, Nat.mod_lt _ (by norm_num)⟩ k :=
    Shape.reshapeEquiv_eq_of_rowMajor shapeCasts_S6x1024x5120_S6144x5120 (by
      rw [Shape.rowMajor_val_three, Shape.rowMajor_val_two]
      show (R.val / 1024 * 1024 + R.val % 1024) * 5120 + k.val = R.val * 5120 + k.val
      omega)
  have h2 : Shape.reshapeEquiv shapeCasts_S6x1024x40x128_S6x1024x5120 (ix3 ⟨R.val / 1024, by have := R.isLt; omega⟩ ⟨R.val % 1024, Nat.mod_lt _ (by norm_num)⟩ k)
      = ix4 ⟨R.val / 1024, by have := R.isLt; omega⟩ ⟨R.val % 1024, Nat.mod_lt _ (by norm_num)⟩
          ⟨k.val / 128, by have := k.isLt; omega⟩ ⟨k.val % 128, Nat.mod_lt _ (by norm_num)⟩ :=
    Shape.reshapeEquiv_eq_of_rowMajor shapeCasts_S6x1024x40x128_S6x1024x5120 (by
      rw [Shape.rowMajor_val_three, Shape.rowMajor_val_four]
      show ((R.val / 1024 * 1024 + R.val % 1024) * 40 + k.val / 128) * 128 + k.val % 128 = (R.val / 1024 * 1024 + R.val % 1024) * 5120 + k.val
      omega)
  show y (Shape.reshapeEquiv shapeCasts_S6x1024x40x128_S6x1024x5120 (Shape.reshapeEquiv shapeCasts_S6x1024x5120_S6144x5120 (ix2 R k))) = _
  rw [h1, h2]

/-- A vector of 7168 entries as one row. -/
theorem asRow_apply (v : FVec Ideal S7168 .f32) (l : Fin 1) (n : Fin 7168) :
    shapeCast S1x7168 v shapeCasts_S7168_S1x7168 (ix2 l n) = v (ix1 n) :=
  congrArg v (Shape.reshapeEquiv_eq_of_rowMajor shapeCasts_S7168_S1x7168 (by
    rw [Shape.rowMajor_val_one, Shape.rowMajor_val_two]
    show n.val = l.val * 7168 + n.val
    have := l.isLt
    omega))

/-- The kernel's first operand is the rotation of the rows. -/
theorem rotated (x : FVec Ideal S6x1024x5120 .bf16) (H : FVec Ideal S128x128 .f32) (hH : ∀ i j : Fin 128, H (ix2 i j) = sgn (had 7 i.val j.val))
    (R : Fin 6144) (k : Fin 5120) :
    shapeCast S6144x5120 (shapeCast S6x1024x5120 (Host.dotGeneral (F := Ideal) dot_S6x1024x40x128_S128x128_S6x1024x40x128_3_0_012_1_n_n none
        (shapeCast S6x1024x40x128 (extf (F := Ideal) (φ := .bf16) .f32 x bitsLt_bf16_f32) shapeCasts_S6x1024x5120_S6x1024x40x128)
        (mulf (F := Ideal) (s := S128x128) (φ := .f32) H (broadcastInDim S128x128 ![] bcast_S_S128x128 (constant (F := Ideal) S_ .f32 0x3DB504F3#32)))) shapeCasts_S6x1024x40x128_S6x1024x5120)
      shapeCasts_S6x1024x5120_S6144x5120 (ix2 R k) = rot (xrow x R) k := by
  rw [join_apply, dot_apply, ← rot_eq_inside]
  refine Finset.sum_congr rfl fun i _ => ?_
  rw [cut_apply]
  have hm : (mulf (F := Ideal) (s := S128x128) (φ := .f32) H (broadcastInDim S128x128 ![] bcast_S_S128x128 (constant (F := Ideal) S_ .f32 0x3DB504F3#32)))
      (ix2 i ⟨k.val % 128, Nat.mod_lt _ (by norm_num)⟩) = sgn (had 7 i.val (k.val % 128)) * cRot := congrArg (fun z : EReal => z * cRot) (hH i ⟨k.val % 128, Nat.mod_lt _ (by norm_num)⟩)
  rw [hm]
  rfl

/-! ## What the region is entered with -/

variable (m : (ℓ : Loc nD τ sig) → Buf (Elt Ideal) ℓ) (c : Dev nD)

theorem V_eq (b : Ref sig .tc) : V m c b = after hostOps0_14 (lvl7 (fun b => m (c, b))) (Proc.devRef .tc b) := by
  unfold lvl7 lvl6 lvl5 lvl4 lvl3 lvl2 lvl1
  show after (List.flatten _) _ _ = _
  simp only [List.flatten_cons, List.flatten_nil, List.append_nil, after_append]

theorem V_v21 (R : Fin 6144) (k : Fin 5120) : (V m c main_v21 : FVec Ideal S6144x5120 .f32) (ix2 R k)
    = rot (xrow (m ((c : Thread nD τ).loc main_arg0) : FVec Ideal S6x1024x5120 .bf16) R) k := by
  have h : (V m c main_v21 : FVec Ideal S6144x5120 .f32) = _ := (V_eq m c main_v21).trans (last_v21 _)
  rw [h, keep0]
  exact rotated _ _ (had7 _) R k

theorem V_v22 (l : Fin 1) (n : Fin 7168) : (V m c main_v22 : FVec Ideal S1x7168 .f32) (ix2 l n) = (m ((c : Thread nD τ).loc main_arg2) : FVec Ideal S7168 .f32) (ix1 n) := by
  have h : (V m c main_v22 : FVec Ideal S1x7168 .f32) = _ := (V_eq m c main_v22).trans (last_v22 _)
  rw [h, keep2]
  exact asRow_apply _ l n

theorem V_v23 (l : Fin 1) (n : Fin 7168) : (V m c main_v23 : FVec Ideal S1x7168 .f32) (ix2 l n) = (m ((c : Thread nD τ).loc main_arg3) : FVec Ideal S7168 .f32) (ix1 n) := by
  have h : (V m c main_v23 : FVec Ideal S1x7168 .f32) = _ := (V_eq m c main_v23).trans (last_v23 _)
  rw [h, keep3]
  exact asRow_apply _ l n

theorem V_arg1 : V m c main_arg1 = m ((c : Thread nD τ).loc main_arg1) :=
  (V_eq m c main_arg1).trans ((last_arg1 _).trans (keep1 _))

end Cert.ReferenceIdeal.RHost

end
-- ==== Proof.RefValue.lean ====
/- The reference's three final arrays as functions of its arguments. -/
module

public import proofs.«01_k».proof.Proof.Gen.ReferenceIdeal.Value
public import proofs.«01_k».proof.Proof.RRows
public import proofs.«01_k».proof.Proof.RHost2
public import proofs.«01_k».proof.Proof.Spec
public import Idealize.ShloMosaic.Lib.Pipeline.ValueKit.Geometry
public import Idealize.ShloMosaic.Lib.Tactic

@[expose] public section

set_option maxRecDepth 16384

noncomputable section

namespace Cert.ReferenceIdeal.RefValue

open Cert.ReferenceIdeal Cert.ReferenceIdeal.Gen Cert.Rows Cert.ReferenceIdeal.RRows Cert.ReferenceIdeal.RHost
open Idealize.ShloMosaic Idealize.ShloMosaic.TcCoe Idealize.SL.Sem Idealize.ShloMosaic.Tactic
open Idealize.ShloMosaic.Pipeline (Dat)

variable (m : (ℓ : Loc nD τ sig) → Buf (Elt Ideal) ℓ) (c : Dev nD)

/-- An index of a matrix is a row and a column. -/
theorem eta {n k : Nat} (y : (⟨2, ![n, k]⟩ : Shape).Idx) : y = ix2 (y 0) (y 1) := by
  funext a; fin_cases a <;> rfl

theorem zeros2 : (![0, 0] : Fin 2 → Nat) = fun _ => 0 := by funext a; fin_cases a <;> rfl

theorem e0 : ∀ t : Fin cfg0.N, win0_0.index t = ![0, 0] := (by decide +kernel : ∀ t : Fin grid0.N, win0_0.index t = ![0, 0])
theorem e1 : ∀ t : Fin cfg0.N, win0_1.index t = ![0, 0] := (by decide +kernel : ∀ t : Fin grid0.N, win0_1.index t = ![0, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![0, 0] := (by decide +kernel : ∀ t : Fin grid0.N, win0_4.index t = ![0, 0])
theorem e5 : ∀ t : Fin cfg0.N, win0_5.index t = ![0, 0] := (by decide +kernel : ∀ t : Fin grid0.N, win0_5.index t = ![0, 0])
theorem e6 : ∀ t : Fin cfg0.N, win0_6.index t = ![0, 0] := (by decide +kernel : ∀ t : Fin grid0.N, win0_6.index t = ![0, 0])

/-- Every input window holds its whole array. -/
theorem read0 (t : Fin cfg0.N) : (iblk m c 0 t : FVec Ideal S6144x5120 .f32) = V m c main_v21 := by
  funext y
  blk_simp [iblk]
  exact congrArg (V m c main_v21) (by blk_ext [e0])

theorem read1 (t : Fin cfg0.N) : (iblk m c 1 t : IVec S7168x5120 8) = V m c main_arg1 := by
  funext y
  blk_simp [iblk]
  exact congrArg (V m c main_arg1) (by blk_ext [e1])

theorem read2 (t : Fin cfg0.N) : (iblk m c 2 t : FVec Ideal S1x7168 .f32) = V m c main_v22 := by
  funext y
  blk_simp [iblk]
  exact congrArg (V m c main_v22) (by blk_ext [e2])

theorem read3 (t : Fin cfg0.N) : (iblk m c 3 t : FVec Ideal S1x7168 .f32) = V m c main_v23 := by
  funext y
  blk_simp [iblk]
  exact congrArg (V m c main_v23) (by blk_ext [e3])

theorem row_eq (R : Fin 6144) : vrow (V m c main_v21 : FVec Ideal S6144x5120 .f32) R = rot (xrow (m ((c : Thread nD τ).loc main_arg0) : FVec Ideal S6x1024x5120 .bf16) R) := by
  funext k
  exact V_v21 m c R k

/-- What the body leaves in each output buffer is its payload over the whole arrays. -/
theorem out4 (x0 : Vec Ideal S6144x5120 .f32) (x1 : Vec Ideal S7168x5120 .i8) (x2 x3 : Vec Ideal S1x7168 .f32) : out0_4 x0 x1 x2 x3 = k0_pay4 x0 x1 x2 x3 := by
  unfold out0_4
  refine (View.canon_unit_zero zeros2 _ _).trans ?_
  rw [View.ld_unit_zero zeros2, View.ld_unit_zero zeros2, View.ld_unit_zero zeros2, View.ld_unit_zero zeros2]

theorem out5 (x0 : Vec Ideal S6144x5120 .f32) (x1 : Vec Ideal S7168x5120 .i8) (x2 x3 : Vec Ideal S1x7168 .f32) : out0_5 x0 x1 x2 x3 = k0_pay3 x0 := by
  unfold out0_5
  refine (View.canon_unit_zero zeros2 _ _).trans ?_
  rw [View.ld_unit_zero zeros2]

theorem out6 (x0 : Vec Ideal S6144x5120 .f32) (x1 : Vec Ideal S7168x5120 .i8) (x2 x3 : Vec Ideal S1x7168 .f32) : out0_6 x0 x1 x2 x3 = k0_pay2 x0 := by
  unfold out0_6
  refine (View.canon_unit_zero zeros2 _ _).trans ?_
  rw [View.ld_unit_zero zeros2]

theorem pay4_spec (R : Fin 6144) (n : Fin 7168) :
    k0_pay4 (V m c main_v21 : FVec Ideal S6144x5120 .f32) (V m c main_arg1 : IVec S7168x5120 8) (V m c main_v22 : FVec Ideal S1x7168 .f32) (V m c main_v23 : FVec Ideal S1x7168 .f32) (ix2 R n)
      = OUT (m ((c : Thread nD τ).loc main_arg0)) (m ((c : Thread nD τ).loc main_arg1)) (m ((c : Thread nD τ).loc main_arg2)) (m ((c : Thread nD τ).loc main_arg3)) (ix2 R n) := by
  refine (pay4_apply _ _ _ _ R n).trans ?_
  rw [row_eq, V_v22, V_v23, V_arg1]
  rfl

theorem pay3_spec (R : Fin 6144) (k : Fin 5120) :
    k0_pay3 (V m c main_v21 : FVec Ideal S6144x5120 .f32) (ix2 R k) = CODES (m ((c : Thread nD τ).loc main_arg0)) (ix2 R k) := by
  refine (pay3_eq _ R k).trans ?_
  rw [row_eq]
  rfl

theorem pay2_spec (R : Fin 6144) (l : Fin 1) :
    k0_pay2 (V m c main_v21 : FVec Ideal S6144x5120 .f32) (ix2 R l) = SCALES (m ((c : Thread nD τ).loc main_arg0)) (ix2 R l) := by
  refine (pay2_eq _ R l).trans ?_
  rw [row_eq]
  rfl

theorem final4 : (dats m 0 c).arrAt 4 cfg0.N
    = OUT (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have he : (win0_4.blk t).view.emb y = y := by blk_ext [e4]
  have hy : (y : S6144x7168.Idx) = ix2 (y 0) (y 1) := eta y
  refine (congrFun (out4 _ _ _ _) _).trans ?_
  rw [read0, read1, read2, read3, he]
  rw [hy]
  exact pay4_spec m c (y 0) (y 1)

theorem final5 : (dats m 0 c).arrAt 5 cfg0.N = CODES (m ((c : Thread nD τ).loc main_arg0)) := by
  refine (dats m 0 c).arrAt_eq_of_covers 5 _ (by decide +kernel) fun t hf y => ?_
  blk_simp
  rw [after0_5]
  have he : (win0_5.blk t).view.emb y = y := by blk_ext [e5]
  have hy : (y : S6144x5120.Idx) = ix2 (y 0) (y 1) := eta y
  refine (congrFun (out5 _ _ _ _) _).trans ?_
  rw [read0, he, hy]
  exact pay3_spec m c (y 0) (y 1)

theorem final6 : (dats m 0 c).arrAt 6 cfg0.N = SCALES (m ((c : Thread nD τ).loc main_arg0)) := by
  refine (dats m 0 c).arrAt_eq_of_covers 6 _ (by decide +kernel) fun t hf y => ?_
  blk_simp
  rw [after0_6]
  have he : (win0_6.blk t).view.emb y = y := by blk_ext [e6]
  have hy : (y : S6144x1.Idx) = ix2 (y 0) (y 1) := eta y
  refine (congrFun (out6 _ _ _ _) _).trans ?_
  rw [read0, he, hy]
  exact pay2_spec m c (y 0) (y 1)

end Cert.ReferenceIdeal.RefValue

end
-- ==== Proof.Algebraic.lean ====
/- The kernel and the reference leave equal results: both final arrays are the same functions of the arguments. -/
module

public import proofs.«01_k».proof.Defs
public import proofs.«01_k».proof.Proof.KValue
public import proofs.«01_k».proof.Proof.RefValue

@[expose] public section

set_option maxRecDepth 16384

noncomputable section

namespace Cert.Proof

open Idealize.ShloMosaic Idealize.SL.Sem Idealize.ShloMosaic.TcCoe Cert.Rows

/-- The kernel's run with its results named. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v3_0)
        = OUT (m ((c : Thread Cert.KernelIdeal.nD Cert.KernelIdeal.τ).loc Cert.KernelIdeal.main_arg0)) (m ((c : Thread Cert.KernelIdeal.nD Cert.KernelIdeal.τ).loc Cert.KernelIdeal.main_arg1))
            (m ((c : Thread Cert.KernelIdeal.nD Cert.KernelIdeal.τ).loc Cert.KernelIdeal.main_arg2)) (m ((c : Thread Cert.KernelIdeal.nD Cert.KernelIdeal.τ).loc Cert.KernelIdeal.main_arg3))
      ∧ r.2.mem ((c.tc : Thread Cert.KernelIdeal.nD Cert.KernelIdeal.τ).loc Cert.KernelIdeal.main_v3_1) = CODES (m ((c : Thread Cert.KernelIdeal.nD Cert.KernelIdeal.τ).loc Cert.KernelIdeal.main_arg0))
      ∧ r.2.mem ((c.tc : Thread Cert.KernelIdeal.nD Cert.KernelIdeal.τ).loc Cert.KernelIdeal.main_v3_2) = SCALES (m ((c : Thread Cert.KernelIdeal.nD Cert.KernelIdeal.τ).loc Cert.KernelIdeal.main_arg0))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono
    (fun r h c => ⟨((h.1 c).1 5).trans (Cert.KernelIdeal.KValue.final5 m c), ((h.1 c).1 6).trans (Cert.KernelIdeal.KValue.final6 m c),
      ((h.1 c).1 7).trans (Cert.KernelIdeal.KValue.final7 m c), h.2.1 c⟩)
    (θ_run_and (Cert.KernelIdeal.Body.run_main m g) (Cert.KernelIdeal.Body.frame m g))

/-- The kernel and the reference end with equal results. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => OUT (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3)),
    fun c => CODES (m ((c : Thread Cert.KernelIdeal.nD Cert.KernelIdeal.τ).loc Cert.KernelIdeal.main_arg0)),
    fun c => SCALES (m ((c : Thread Cert.KernelIdeal.nD Cert.KernelIdeal.τ).loc Cert.KernelIdeal.main_arg0)), kernel_run m g, ?_⟩
  refine (θ_run Cert.ReferenceIdeal.defs _ _).mono (fun r h c => ?_) (Cert.ReferenceIdeal.Value.run_blocks (F := Ideal) m' g')
  obtain ⟨h0, h1, h2, ha⟩ := h c
  obtain ⟨a0, a1, a2, a3⟩ := hagree c
  refine ⟨(h0.trans (Cert.ReferenceIdeal.RefValue.final4 m' c)).trans ?_, (h1.trans (Cert.ReferenceIdeal.RefValue.final5 m' c)).trans ?_,
    (h2.trans (Cert.ReferenceIdeal.RefValue.final6 m' c)).trans ?_, ha⟩
  · rw [a0, a1, a2, a3]
  · rw [a0]
  · rw [a0]

end Cert.Proof

end
-- ==== Proof.KFrame.lean ====
/- The kernel read over the machine's floats: its program is word for word the idealized one, whose frame is proved for any floats. -/
module

public import proofs.«01_k».proof.Defs
public import proofs.«01_k».proof.Proof.Run
public import proofs.«01_k».proof.Proof.Gen.Kernel
public import Idealize.ShloMosaic.Lib.Tactic

@[expose] public section

set_option maxRecDepth 16384

namespace Cert.Proof

open Idealize.ShloMosaic Idealize.SL.Sem Idealize.ShloMosaic.Tactic

/-- The idealized program's text, over the machine's floats: it terminates with its arguments unchanged and every counter at zero. -/
def FrameOfIdealText : Prop := ∀ (m : (ℓ : Loc Cert.KernelIdeal.nD Cert.KernelIdeal.τ Cert.KernelIdeal.sig) → Buf (Elt Bits) ℓ) (ρ : Dev Cert.KernelIdeal.nD → PrngReg),
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The same of the kernel's text. -/
def FrameOfText : Prop := ∀ (m : (ℓ : Loc Cert.Kernel.nD Cert.Kernel.τ Cert.Kernel.sig) → Buf (Elt Bits) ℓ) (ρ : Dev Cert.Kernel.nD → PrngReg),
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

/-- The two texts are the same, so the two statements are. -/
theorem frames_eq : FrameOfText = FrameOfIdealText := by sl_kernel_rfl

/-- The kernel's frame. -/
theorem kernel_frame : Cert.quiescent_Kernel (hKernel := Cert.Kernel.Gen.facts) :=
  fun m ρ _ => (frames_eq.mpr (fun m ρ => Cert.KernelIdeal.Body.frame (F := Bits) m ρ) : FrameOfText) m ρ

end Cert.Proof
-- ==== Proof.lean ====
module

public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run
public import proofs.«01_k».proof.Proof.Algebraic
public import proofs.«01_k».proof.Proof.KFrame
public import Idealize.ShloMosaic.Adequacy
public import Idealize.ShloMosaic.Init

@[expose] public section

noncomputable section

namespace Cert.Proof

open Idealize.ShloMosaic Idealize.SL.Sem Cert.Kernel

/-- All five claims: the three frames, the idealization, and the equality of the results. -/
theorem claim : Cert.Claim := ⟨Cert.Kernel.Gen.facts, Cert.KernelIdeal.Gen.facts, Cert.ReferenceIdeal.Gen.facts,
  kernel_frame, fun m ρ _ => Cert.KernelIdeal.Body.frame m ρ, fun m ρ _ => Cert.ReferenceIdeal.Gen.frame m ρ,
  trivial, algebraic⟩

end Cert.Proof

end
